-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x32x32 : Shape := ⟨4, ![8, 256, 32, 32]⟩
abbrev S1024x256 : Shape := ⟨2, ![1024, 256]⟩
abbrev S8x256x1024 : Shape := ⟨3, ![8, 256, 1024]⟩
abbrev S8x1x1024 : Shape := ⟨3, ![8, 1, 1024]⟩
abbrev S1x1 : Shape := ⟨2, ![1, 1]⟩
abbrev S1x256x1024 : Shape := ⟨3, ![1, 256, 1024]⟩
abbrev S1x1x1024 : Shape := ⟨3, ![1, 1, 1024]⟩
abbrev S256x1024 : Shape := ⟨2, ![256, 1024]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S1 : Shape := ⟨1, ![1]⟩
abbrev S1x1x1 : Shape := ⟨3, ![1, 1, 1]⟩
abbrev S1x1024x1 : Shape := ⟨3, ![1, 1024, 1]⟩
abbrev S_ : Shape := ⟨0, ![]⟩
abbrev S8x1024 : Shape := ⟨2, ![8, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x256x1024, .f32⟩
  | .hbm, ⟨3, _⟩ => ⟨S8x256x1024, .f32⟩
  | .hbm, ⟨4, _⟩ => ⟨S8x1x1024, .i32⟩
  | .hbm, ⟨5, _⟩ => ⟨S1x1, .f32⟩
  | .hbm, ⟨6, _⟩ => ⟨S1x1, .f32⟩
  | .hbm, ⟨7, _⟩ => ⟨S8x256x32x32, .f32⟩
  | .hbm, ⟨8, _⟩ => ⟨S_, .f32⟩
  | .hbm, ⟨9, _⟩ => ⟨S_, .f32⟩
  | .hbm, ⟨10, _⟩ => ⟨S8x1024, .i32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S1x256x1024, .f32⟩
  | .local _ .vmem, ⟨4, _⟩ => ⟨S1x256x1024, .f32⟩
  | .local _ .vmem, ⟨5, _⟩ => ⟨S1x1x1024, .i32⟩
  | .local _ .vmem, ⟨6, _⟩ => ⟨S1x1x1024, .i32⟩
  | .local _ .vmem, ⟨7, _⟩ => ⟨S1x1, .f32⟩
  | .local _ .vmem, ⟨8, _⟩ => ⟨S1x1, .f32⟩
  | .local _ .vmem, ⟨9, _⟩ => ⟨S1024x256, .f32⟩
  | .local _ .vmem, ⟨10, _⟩ => ⟨S256x1024, .f32⟩
  | .local _ .vmem, ⟨11, _⟩ => ⟨S1024x1, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_28 : BitVec 32 := 0#32
  let v58 : BitVec 1 := Scalar.cmpi .ne v57 c0_i32_28
  v58

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S_ : Shape := ⟨0, ![]⟩
abbrev S8x32x32 : Shape := ⟨3, ![8, 32, 32]⟩
abbrev S8x32x32x1 : Shape := ⟨4, ![8, 32, 32, 1]⟩
abbrev S8192x256 : Shape := ⟨2, ![8192, 256]⟩
abbrev S1024 : Shape := ⟨1, ![1024]⟩
abbrev S1024x1 : Shape := ⟨2, ![1024, 1]⟩
abbrev S256x1024 : Shape := ⟨2, ![256, 1024]⟩
abbrev S8192x1024 : Shape := ⟨2, ![8192, 1024]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S8x1024 : Shape := ⟨2, ![8, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8x32x32x256, .f32⟩
  | .hbm, ⟨4, _⟩ => ⟨S_, .f32⟩
  | .hbm, ⟨5, _⟩ => ⟨S8x32x32, .f32⟩
  | .hbm, ⟨6, _⟩ => ⟨S8x32x32x1, .f32⟩
  | .hbm, ⟨7, _⟩ => ⟨S8x32x32x1, .f32⟩
  | .hbm, ⟨8, _⟩ => ⟨S_, .f32⟩
  | .hbm, ⟨9, _⟩ => ⟨S8x32x32x1, .f32⟩
  | .hbm, ⟨10, _⟩ => ⟨S8x32x32x1, .f32⟩
  | .hbm, ⟨11, _⟩ => ⟨S8x32x32x256, .f32⟩
  | .hbm, ⟨12, _⟩ => ⟨S8x32x32x256, .f32⟩
  | .hbm, ⟨13, _⟩ => ⟨S8192x256, .f32⟩
  | .hbm, ⟨14, _⟩ => ⟨S1024x256, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x256, .f32⟩
  | .hbm, ⟨23, _⟩ => ⟨S1024x256, .f32⟩
  | .hbm, ⟨24, _⟩ => ⟨S8192x256, .f32⟩
  | .hbm, ⟨25, _⟩ => ⟨S256x1024, .f32⟩
  | .hbm, ⟨26, _⟩ => ⟨S8192x1024, .f32⟩
  | .hbm, ⟨27, _⟩ => ⟨S8192x1024, .i32⟩
  | .hbm, ⟨28, _⟩ => ⟨S_, .f32⟩
  | .hbm, ⟨29, _⟩ => ⟨S_, .i32⟩
  | .hbm, ⟨30, _⟩ => ⟨S8192, .f32⟩
  | .hbm, ⟨31, _⟩ => ⟨S8192, .i32⟩
  | .hbm, ⟨32, _⟩ => ⟨S_, .i32⟩
  | .hbm, ⟨33, _⟩ => ⟨S1024, .i32⟩
  | .hbm, ⟨34, _⟩ => ⟨S_, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S_, .i32⟩
  | .hbm, ⟨47, _⟩ => ⟨S8192, .i32⟩
  | .hbm, ⟨48, _⟩ => ⟨S1024, .i32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S1, .i32⟩
  | .hbm, ⟨77, _⟩ => ⟨S_, .i32⟩
  | .hbm, ⟨78, _⟩ => ⟨S8192x1, .i32⟩
  | .hbm, ⟨79, _⟩ => ⟨S8192x1, .i1⟩
  | .hbm, ⟨80, _⟩ => ⟨S1x1, .i32⟩
  | .hbm, ⟨81, _⟩ => ⟨S8192x1, .i32⟩
  | .hbm, ⟨82, _⟩ => ⟨S8192x1, .i1⟩
  | .hbm, ⟨83, _⟩ => ⟨S8192x1, .i1⟩
  | .hbm, ⟨84, _⟩ => ⟨S_, .i1⟩
  | .hbm, ⟨85, _⟩ => ⟨S8192, .i1⟩
  | .hbm, ⟨86, _⟩ => ⟨S8192x256, .f32⟩
  | .hbm, ⟨87, _⟩ => ⟨S8192x256, .i1⟩
  | .hbm, ⟨88, _⟩ => ⟨S_, .f32⟩
  | .hbm, ⟨89, _⟩ => ⟨S8192x256, .f32⟩
  | .hbm, ⟨90, _⟩ => ⟨S8192x256, .f32⟩
  | .hbm, ⟨91, _⟩ => ⟨S8x32x32x256, .f32⟩
  | .hbm, ⟨92, _⟩ => ⟨S8x32x32x256, .f32⟩
  | .hbm, ⟨93, _⟩ => ⟨S_, .f32⟩
  | .hbm, ⟨94, _⟩ => ⟨S8x32x32, .f32⟩
  | .hbm, ⟨95, _⟩ => ⟨S8x32x32x1, .f32⟩
  | .hbm, ⟨96, _⟩ => ⟨S8x32x32x1, .f32⟩
  | .hbm, ⟨97, _⟩ => ⟨S_, .f32⟩
  | .hbm, ⟨98, _⟩ => ⟨S8x32x32x1, .f32⟩
  | .hbm, ⟨99, _⟩ => ⟨S8x32x32x1, .f32⟩
  | .hbm, ⟨100, _⟩ => ⟨S8x32x32x256, .f32⟩
  | .hbm, ⟨101, _⟩ => ⟨S8x32x32x256, .f32⟩
  | .hbm, ⟨102, _⟩ => ⟨S8x32x32x256, .f32⟩
  | .hbm, ⟨103, _⟩ => ⟨S8x32x32x256, .f32⟩
  | .hbm, ⟨104, _⟩ => ⟨S_, .f32⟩
  | .hbm, ⟨105, _⟩ => ⟨S8x32x32, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S8x32x32x256, .f32⟩
  | .hbm, ⟨113, _⟩ => ⟨S8x32x32x256, .f32⟩
  | .hbm, ⟨114, _⟩ => ⟨S_, .f32⟩
  | .hbm, ⟨115, _⟩ => ⟨S8x32x32, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S8x32x32x256, .f32⟩
  | .hbm, ⟨122, _⟩ => ⟨S8x32x32x256, .f32⟩
  | .hbm, ⟨123, _⟩ => ⟨S8x256x32x32, .f32⟩
  | .hbm, ⟨124, _⟩ => ⟨S8x1024, .i32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call2_v0 : Ref sig .tc := ⟨.hbm, 27, rfl⟩
abbrev main_call2_cst : Ref sig .tc := ⟨.hbm, 28, rfl⟩
abbrev main_call2_c : Ref sig .tc := ⟨.hbm, 29, rfl⟩
abbrev main_call2_v1_0 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_c_1 : Ref sig .tc := ⟨.hbm, 34, rfl⟩
abbrev main_call3_v0 : Ref sig .tc := ⟨.hbm, 35, rfl⟩
abbrev main_call3_v1 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_call4_cst : Ref sig .tc := ⟨.hbm, 88, rfl⟩
abbrev main_call4_v15 : Ref sig .tc := ⟨.hbm, 89, rfl⟩
abbrev main_v41 : Ref sig .tc := ⟨.hbm, 90, rfl⟩
abbrev main_v42 : Ref sig .tc := ⟨.hbm, 91, rfl⟩
abbrev main_call5_v0 : Ref sig .tc := ⟨.hbm, 92, rfl⟩
abbrev main_call5_cst : Ref sig .tc := ⟨.hbm, 93, rfl⟩
abbrev main_call5_v1 : Ref sig .tc := ⟨.hbm, 94, rfl⟩
abbrev main_call5_v2 : Ref sig .tc := ⟨.hbm, 95, rfl⟩
abbrev main_v43 : Ref sig .tc := ⟨.hbm, 96, rfl⟩
abbrev main_cst_9 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_10 : Ref sig .tc := ⟨.hbm, 104, rfl⟩
abbrev main_v50 : Ref sig .tc := ⟨.hbm, 105, rfl⟩
abbrev main_cst_11 : Ref sig .tc := ⟨.hbm, 106, rfl⟩
abbrev main_v51 : Ref sig .tc := ⟨.hbm, 107, rfl⟩
abbrev main_cst_12 : Ref sig .tc := ⟨.hbm, 108, rfl⟩
abbrev main_v52 : Ref sig .tc := ⟨.hbm, 109, rfl⟩
abbrev main_cst_13 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_14 : Ref sig .tc := ⟨.hbm, 114, rfl⟩
abbrev main_v56 : Ref sig .tc := ⟨.hbm, 115, rfl⟩
abbrev main_cst_15 : Ref sig .tc := ⟨.hbm, 116, rfl⟩
abbrev main_v57 : Ref sig .tc := ⟨.hbm, 117, rfl⟩
abbrev main_cst_16 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩

abbrev nD : Nat := 1
abbrev τ : Topo := Topo.v7x

variable {F : FTy → Type} [FloatOps F]
-- ==== Proof.Steps.lean ====
/- What one grid point of the kernel leaves in its outputs and scratch buffers, as the body's payloads.

   The frame run names the contents after a point by the stores it found (`out0_κ_w` for output window `w`,
   `sout0_κ_i` for scratch buffer `i`, in case κ: A the first point, B a middle point, C the last point). Every
   store covers its whole buffer, so the contents are the payload of the last store, its loads read back. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The zero offsets of a rank-two access. -/
theorem hz2 : (![0, 0] : Fin 2 → Nat) = fun _ => 0 := funext fun a => by fin_cases a <;> rfl

/-- The zero offsets of a rank-three access. -/
theorem hz3 : (![0, 0, 0] : Fin 3 → Nat) = fun _ => 0 := funext fun a => by fin_cases a <;> rfl

variable (c : Dev nD) (i : grid0.Coords) (arg1 : Memref sig .tc .vmem S1x256x1024 .f32) (harg1 : arg1.IsWhole) (arg2 : Memref sig .tc .vmem S1024x256 .f32) (harg2 : arg2.IsWhole) (arg3 : Memref sig .tc .vmem S1x256x1024 .f32) (harg3 : arg3.IsWhole) (arg4 : Memref sig .tc .vmem S1x1x1024 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x256 .f32) (harg7 : arg7.IsWhole) (arg8 : Memref sig .tc .vmem S256x1024 .f32) (harg8 : arg8.IsWhole) (arg9 : Memref sig .tc .vmem S1024x1 .f32) (harg9 : arg9.IsWhole)

/-- First point, output 2: the gathered codebook rows. -/
theorem out_A_2 (hc0 : cond0_0 i) (hc1 : ¬cond0_1 i)
    (x0 : Vec F S1x256x1024 .f32) (x1 : Vec F S1024x256 .f32) :
    out0_A_2 c i arg1 harg1 arg2 harg2 arg3 harg3 arg4 harg4 arg5 harg5 arg6 harg6 arg7 harg7 arg8 harg8 arg9 harg9 hc0 hc1 x0 x1 = k0_pay3 (k0_pay15 x0 (k0_pay8 x1)) (k0_pay9 x1) := by
  unfold out0_A_2
  rw [View.read_writes_eq_canon _ _ _ (cover0_A_2 c i arg1 harg1 arg2 harg2 arg3 harg3 arg4 harg4 arg5 harg5 arg6 harg6 arg7 harg7 arg8 harg8 arg9 harg9 hc0 hc1 x0 x1)]
  unfold kernelRun0_A
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- First point, output 3: the indices. -/
theorem out_A_3 (hc0 : cond0_0 i) (hc1 : ¬cond0_1 i)
    (x0 : Vec F S1x256x1024 .f32) (x1 : Vec F S1024x256 .f32) :
    out0_A_3 c i arg1 harg1 arg2 harg2 arg3 harg3 arg4 harg4 arg5 harg5 arg6 harg6 arg7 harg7 arg8 harg8 arg9 harg9 hc0 hc1 x0 x1 = k0_pay14 x0 (k0_pay8 x1) := by
  unfold out0_A_3
  rw [View.read_writes_eq_canon _ _ _ (cover0_A_3 c i arg1 harg1 arg2 harg2 arg3 harg3 arg4 harg4 arg5 harg5 arg6 harg6 arg7 harg7 arg8 harg8 arg9 harg9 hc0 hc1 x0 x1)]
  unfold kernelRun0_A
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- First point, output 4: the squared differences of the block, added to zero. -/
theorem out_A_4 (hc0 : cond0_0 i) (hc1 : ¬cond0_1 i)
    (x0 : Vec F S1x256x1024 .f32) (x1 : Vec F S1024x256 .f32) :
    out0_A_4 c i arg1 harg1 arg2 harg2 arg3 harg3 arg4 harg4 arg5 harg5 arg6 harg6 arg7 harg7 arg8 harg8 arg9 harg9 hc0 hc1 x0 x1 = k0_pay4 (k0_pay12 x0) (k0_pay15 x0 (k0_pay8 x1)) (k0_pay9 x1) k0_pay11 := by
  unfold out0_A_4
  rw [View.read_writes_eq_canon _ _ _ (cover0_A_4 c i arg1 harg1 arg2 harg2 arg3 harg3 arg4 harg4 arg5 harg5 arg6 harg6 arg7 harg7 arg8 harg8 arg9 harg9 hc0 hc1 x0 x1)]
  unfold kernelRun0_A
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- First point, scratch 0: the normalized codebook. -/
theorem scr_A_0 (hc0 : cond0_0 i) (hc1 : ¬cond0_1 i)
    (x0 : Vec F S1x256x1024 .f32) (x1 : Vec F S1024x256 .f32) :
    sout0_A_0 c i arg1 harg1 arg2 harg2 arg3 harg3 arg4 harg4 arg5 harg5 arg6 harg6 arg7 harg7 arg8 harg8 arg9 harg9 hc0 hc1 x0 x1 = k0_pay8 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1)]
  unfold kernelRun0_A
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- First point, scratch 1: the normalized codebook transposed. -/
theorem scr_A_1 (hc0 : cond0_0 i) (hc1 : ¬cond0_1 i)
    (x0 : Vec F S1x256x1024 .f32) (x1 : Vec F S1024x256 .f32) :
    sout0_A_1 c i arg1 harg1 arg2 harg2 arg3 harg3 arg4 harg4 arg5 harg5 arg6 harg6 arg7 harg7 arg8 harg8 arg9 harg9 hc0 hc1 x0 x1 = k0_pay9 x1 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1)]
  unfold kernelRun0_A
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- First point, scratch 2: the counts of the block, added to zero. -/
theorem scr_A_2 (hc0 : cond0_0 i) (hc1 : ¬cond0_1 i)
    (x0 : Vec F S1x256x1024 .f32) (x1 : Vec F S1024x256 .f32) :
    sout0_A_2 c i arg1 harg1 arg2 harg2 arg3 harg3 arg4 harg4 arg5 harg5 arg6 harg6 arg7 harg7 arg8 harg8 arg9 harg9 hc0 hc1 x0 x1 = k0_pay1 (k0_pay16 x0 (k0_pay8 x1) k0_pay10) := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1)]
  unfold kernelRun0_A
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Middle point, output 2: the gathered codebook rows. -/
theorem out_B_2 (hc0 : ¬cond0_0 i) (hc1 : ¬cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_B_2 c i arg1 harg1 arg2 harg2 arg3 harg3 arg4 harg4 arg5 harg5 arg6 harg6 arg7 harg7 arg8 harg8 arg9 harg9 hc0 hc1 x0 x1 xo4 xs0 xs1 xs2 = k0_pay3 (k0_pay15 x0 xs0) xs1 := by
  unfold out0_B_2
  rw [View.read_writes_eq_canon _ _ _ (cover0_B_2 c i arg1 harg1 arg2 harg2 arg3 harg3 arg4 harg4 arg5 harg5 arg6 harg6 arg7 harg7 arg8 harg8 arg9 harg9 hc0 hc1 x0 x1 xo4 xs0 xs1 xs2)]
  unfold kernelRun0_B
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Middle point, output 3: the indices. -/
theorem out_B_3 (hc0 : ¬cond0_0 i) (hc1 : ¬cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_B_3 c i arg1 harg1 arg2 harg2 arg3 harg3 arg4 harg4 arg5 harg5 arg6 harg6 arg7 harg7 arg8 harg8 arg9 harg9 hc0 hc1 x0 x1 xo4 xs0 xs1 xs2 = k0_pay14 x0 xs0 := by
  unfold out0_B_3
  rw [View.read_writes_eq_canon _ _ _ (cover0_B_3 c i arg1 harg1 arg2 harg2 arg3 harg3 arg4 harg4 arg5 harg5 arg6 harg6 arg7 harg7 arg8 harg8 arg9 harg9 hc0 hc1 x0 x1 xo4 xs0 xs1 xs2)]
  unfold kernelRun0_B
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Middle point, output 4: the squared differences of the block, added to those so far. -/
theorem out_B_4 (hc0 : ¬cond0_0 i) (hc1 : ¬cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_B_4 c i arg1 harg1 arg2 harg2 arg3 harg3 arg4 harg4 arg5 harg5 arg6 harg6 arg7 harg7 arg8 harg8 arg9 harg9 hc0 hc1 x0 x1 xo4 xs0 xs1 xs2 = k0_pay4 (k0_pay12 x0) (k0_pay15 x0 xs0) xs1 xo4 := by
  unfold out0_B_4
  rw [View.read_writes_eq_canon _ _ _ (cover0_B_4 c i arg1 harg1 arg2 harg2 arg3 harg3 arg4 harg4 arg5 harg5 arg6 harg6 arg7 harg7 arg8 harg8 arg9 harg9 hc0 hc1 x0 x1 xo4 xs0 xs1 xs2)]
  unfold kernelRun0_B
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Middle point, scratch 2: the counts of the block, added to those so far. -/
theorem scr_B_2 (hc0 : ¬cond0_0 i) (hc1 : ¬cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    sout0_B_2 c i arg1 harg1 arg2 harg2 arg3 harg3 arg4 harg4 arg5 harg5 arg6 harg6 arg7 harg7 arg8 harg8 arg9 harg9 hc0 hc1 x0 x1 xo4 xs0 xs1 xs2 = k0_pay1 (k0_pay16 x0 xs0 xs2) := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 xo4 xs0 xs1 xs2)]
  unfold kernelRun0_B
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Last point, output 2: the gathered codebook rows. -/
theorem out_C_2 (hc0 : ¬cond0_0 i) (hc1 : cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_C_2 c i arg1 harg1 arg2 harg2 arg3 harg3 arg4 harg4 arg5 harg5 arg6 harg6 arg7 harg7 arg8 harg8 arg9 harg9 hc0 hc1 x0 x1 xo4 xs0 xs1 xs2 = k0_pay3 (k0_pay15 x0 xs0) xs1 := by
  unfold out0_C_2
  rw [View.read_writes_eq_canon _ _ _ (cover0_C_2 c i arg1 harg1 arg2 harg2 arg3 harg3 arg4 harg4 arg5 harg5 arg6 harg6 arg7 harg7 arg8 harg8 arg9 harg9 hc0 hc1 x0 x1 xo4 xs0 xs1 xs2)]
  unfold kernelRun0_C
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Last point, output 3: the indices. -/
theorem out_C_3 (hc0 : ¬cond0_0 i) (hc1 : cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_C_3 c i arg1 harg1 arg2 harg2 arg3 harg3 arg4 harg4 arg5 harg5 arg6 harg6 arg7 harg7 arg8 harg8 arg9 harg9 hc0 hc1 x0 x1 xo4 xs0 xs1 xs2 = k0_pay14 x0 xs0 := by
  unfold out0_C_3
  rw [View.read_writes_eq_canon _ _ _ (cover0_C_3 c i arg1 harg1 arg2 harg2 arg3 harg3 arg4 harg4 arg5 harg5 arg6 harg6 arg7 harg7 arg8 harg8 arg9 harg9 hc0 hc1 x0 x1 xo4 xs0 xs1 xs2)]
  unfold kernelRun0_C
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Last point, output 4: the scaled sum of squared differences. -/
theorem out_C_4 (hc0 : ¬cond0_0 i) (hc1 : cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_C_4 c i arg1 harg1 arg2 harg2 arg3 harg3 arg4 harg4 arg5 harg5 arg6 harg6 arg7 harg7 arg8 harg8 arg9 harg9 hc0 hc1 x0 x1 xo4 xs0 xs1 xs2 = k0_pay5 (k0_pay4 (k0_pay12 x0) (k0_pay15 x0 xs0) xs1 xo4) := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 xo4 xs0 xs1 xs2)]
  unfold kernelRun0_C
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Last point, output 5: the entropy of the counts. -/
theorem out_C_5 (hc0 : ¬cond0_0 i) (hc1 : cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    out0_C_5 c i arg1 harg1 arg2 harg2 arg3 harg3 arg4 harg4 arg5 harg5 arg6 harg6 arg7 harg7 arg8 harg8 arg9 harg9 hc0 hc1 x0 x1 xo4 xs0 xs1 xs2 = k0_pay6 (k0_pay1 (k0_pay16 x0 xs0 xs2)) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 xo4 xs0 xs1 xs2)]
  unfold kernelRun0_C
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

/-- Last point, scratch 2: the counts of the block, added to those so far. -/
theorem scr_C_2 (hc0 : ¬cond0_0 i) (hc1 : cond0_1 i)
    (x0 : Vec F S1x256x1024 .f32) (x1 : Vec F S1024x256 .f32) (xo4 : Vec F S1x1 .f32) (xs0 : Vec F S1024x256 .f32) (xs1 : Vec F S256x1024 .f32) (xs2 : Vec F S1024x1 .f32) :
    sout0_C_2 c i arg1 harg1 arg2 harg2 arg3 harg3 arg4 harg4 arg5 harg5 arg6 harg6 arg7 harg7 arg8 harg8 arg9 harg9 hc0 hc1 x0 x1 xo4 xs0 xs1 xs2 = k0_pay1 (k0_pay16 x0 xs0 xs2) := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 xo4 xs0 xs1 xs2)]
  unfold kernelRun0_C
  dsimp only
  sl_unfold_words
  simp only [View.canon_unit_zero (S := S1x256x1024) hz3, View.canon_unit_zero (S := S1x1x1024) hz3, View.canon_unit_zero (S := S1x1) hz2, View.canon_unit_zero (S := S1024x256) hz2, View.canon_unit_zero (S := S256x1024) hz2, View.canon_unit_zero (S := S1024x1) hz2, View.canon_cons_unit_zero (S := S1x1) hz2, View.canon_cons_unit_zero (S := S1024x1) hz2,
    View.readCov_unit_zero (S := S1x1) _ hz2, View.readCov_unit_zero (S := S1024x256) _ hz2, View.readCov_unit_zero (S := S256x1024) _ hz2, View.readCov_unit_zero (S := S1024x1) _ hz2,
    View.readAt_eq_ld, harg1.read_unread, harg2.read_unread, harg5.read_unread, harg7.read_unread, harg8.read_unread, harg9.read_unread,
    View.ld_unit_zero (S := S1x256x1024) hz3, View.ld_unit_zero (S := S1024x256) hz2, View.ld_unit_zero (S := S256x1024) hz2, View.ld_unit_zero (S := S1024x1) hz2, View.ld_unit_zero (S := S1x1) hz2]

end Cert.KernelIdeal.Value

end
-- ==== Proof.Value.lean ====
/- What the kernel's run leaves: its four result buffers, as the body's payloads over the launch contents.

   The kernel sweeps eight blocks of the reshaped input. `zb z n` is block `n`; `W e` and `T e` are the normalised
   codebook and its transpose, which the first point stores and every point reads; `usage z e n` and `loss z e n` are
   the two running totals after block `n`. Induction on the point gives every buffer's contents (`inv`); the blocks
   written back give the four arrays the region leaves (`final2` … `final5`); four reshapes give the results (`run`). -/
module

public import proofs.«01_k».proof.Proof.Steps
public import Idealize.ShloMosaic.Lib.Pipeline.Value
public import Idealize.ShloMosaic.Lib.StableHlo.Run
public import Idealize.ShloMosaic.Lib.ValueIdxCore
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable {F : FTy → Type} [FloatOps F]

/-! ## The running values -/

/-- Block `n` of the eight blocks of `z`. -/
def zb (z : Vec F S8x256x1024 .f32) (n : ℕ) : Vec F S1x256x1024 .f32 := fun j =>
  z (ix3 (⟨n % 8, Nat.mod_lt _ (by decide)⟩ : Fin 8) (j 1) (j 2))

/-- The normalised codebook. -/
abbrev W (e : Vec F S1024x256 .f32) : Vec F S1024x256 .f32 := k0_pay8 e

/-- The normalised codebook, transposed. -/
abbrev T (e : Vec F S1024x256 .f32) : Vec F S256x1024 .f32 := k0_pay9 e

/-- The one-hot matrix of block `n`: column `p` marks the codebook row chosen for position `p`. -/
abbrev hot (z : Vec F S8x256x1024 .f32) (e : Vec F S1024x256 .f32) (n : ℕ) : Vec F S1024x1024 .f32 :=
  k0_pay15 (zb z n) (W e)

/-- The codebook rows chosen in block `n`. -/
abbrev zq (z : Vec F S8x256x1024 .f32) (e : Vec F S1024x256 .f32) (n : ℕ) : Vec F S1x256x1024 .f32 :=
  k0_pay3 (hot z e n) (T e)

/-- The indices chosen in block `n`. -/
abbrev ind (z : Vec F S8x256x1024 .f32) (e : Vec F S1024x256 .f32) (n : ℕ) : Vec F S1x1x1024 .i32 :=
  k0_pay14 (zb z n) (W e)

/-- The sum of squared differences over the blocks up to `n`. -/
def loss (z : Vec F S8x256x1024 .f32) (e : Vec F S1024x256 .f32) : ℕ → Vec F S1x1 .f32
  | 0 => k0_pay4 (k0_pay12 (zb z 0)) (hot z e 0) (T e) k0_pay11
  | n + 1 => k0_pay4 (k0_pay12 (zb z (n + 1))) (hot z e (n + 1)) (T e) (loss z e n)

/-- How often each codebook row was chosen in the blocks up to `n`. -/
def usage (z : Vec F S8x256x1024 .f32) (e : Vec F S1024x256 .f32) : ℕ → Vec F S1024x1 .f32
  | 0 => k0_pay1 (k0_pay16 (zb z 0) (W e) k0_pay10)
  | n + 1 => k0_pay1 (k0_pay16 (zb z (n + 1)) (W e) (usage z e n))

variable (m : (ℓ : Loc nD τ sig) → Buf (Elt F) ℓ) (ρ : Dev nD → PrngReg)

/-- The reshaped input, as the region finds it. -/
abbrev zin (c : Dev nD) : Vec F S8x256x1024 .f32 := V m c main_v0

/-- The codebook, as the region finds it. -/
abbrev ein (c : Dev nD) : Vec F S1024x256 .f32 := V m c main_arg1

/-- Where the blocks of the four moving windows and of the codebook start. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The input block of point `t` is block `t` of `z`. -/
theorem iblk_z (c : Dev nD) (t : Fin cfg0.N) : (iblk m c 0 t : Vec F S1x256x1024 .f32) = zb (zin m c) t.val := by
  obtain ⟨⟨h0, h1, h2⟩, -⟩ := idx_facts t
  have hN : t.val < 8 := lt_of_lt_of_eq t.isLt (show cfg0.N = 8 from N_0)
  funext j
  unfold iblk
  rw [View.read_apply]
  show V m c main_v0 _ = V m c main_v0 _
  congr 1
  funext a
  apply Fin.ext
  match a with
  | ⟨0, _⟩ =>
    show win0_0.index t 0 * 1 + 1 * (j 0).val = t.val % 8
    have : (j 0).val < 1 := (j 0).isLt
    rw [h0]; omega
  | ⟨1, _⟩ => show win0_0.index t 1 * 256 + 1 * (j 1).val = (j 1).val; rw [h1]; omega
  | ⟨2, _⟩ => show win0_0.index t 2 * 1024 + 1 * (j 2).val = (j 2).val; rw [h2]; omega

/-- The codebook block of every point is the codebook. -/
theorem iblk_e (c : Dev nD) (t : Fin cfg0.N) : (iblk m c 1 t : Vec F S1024x256 .f32) = ein m c := by
  obtain ⟨-, ⟨h0, h1⟩, -⟩ := idx_facts t
  funext j
  unfold iblk
  rw [View.read_apply]
  show V m c main_arg1 _ = V m c main_arg1 _
  congr 1
  funext a
  apply Fin.ext
  match a with
  | ⟨0, _⟩ => show win0_1.index t 0 * 1024 + 1 * (j 0).val = (j 0).val; rw [h0]; omega
  | ⟨1, _⟩ => show win0_1.index t 1 * 256 + 1 * (j 1).val = (j 1).val; rw [h1]; omega

/-! ## What every point leaves -/

/-- What the buffers hold after point `n`. -/
def Inv (c : Dev nD) (n : ℕ) (x : Vec F S1x256x1024 .f32 × Vec F S1x1x1024 .i32 × Vec F S1x1 .f32 × Vec F S1x1 .f32 × Vec F S1024x256 .f32 × Vec F S256x1024 .f32 × Vec F S1024x1 .f32) : Prop :=
  x.1 = zq (zin m c) (ein m c) n ∧ x.2.1 = ind (zin m c) (ein m c) n
  ∧ (n < 7 → x.2.2.1 = loss (zin m c) (ein m c) n)
  ∧ (n = 7 → x.2.2.1 = k0_pay5 (loss (zin m c) (ein m c) 7) ∧ x.2.2.2.1 = k0_pay6 (usage (zin m c) (ein m c) 7))
  ∧ x.2.2.2.2.1 = W (ein m c) ∧ x.2.2.2.2.2.1 = T (ein m c) ∧ x.2.2.2.2.2.2 = usage (zin m c) (ein m c) n

/-- After every point the buffers hold the running values: the first point starts them, each later point continues
    them, and the last point also turns the two totals into the two scalar results. -/
theorem inv (c : Dev nD) : ∀ (n : ℕ) (h : n < cfg0.N), Inv m c n (outsAt0 m c n h)
  | 0, h => by
    have e := outsAt0_A m c ⟨0, h⟩ rfl (by show ¬(0 % 8 = 7); decide)
    dsimp only at e
    rw [e]
    refine ⟨?_, ?_, fun _ => ?_, fun h7 => absurd h7 (by decide), ?_, ?_, ?_⟩
    · dsimp only
      rw [out_A_2, iblk_z, iblk_e]
    · dsimp only
      rw [out_A_3, iblk_z, iblk_e]
    · dsimp only
      rw [out_A_4, iblk_z, iblk_e]
      rfl
    · dsimp only
      rw [scr_A_0, iblk_e]
    · dsimp only
      rw [scr_A_1, iblk_e]
    · dsimp only
      rw [scr_A_2, iblk_z, iblk_e]
      rfl
  | n + 1, h => by
    have hN : n + 1 < 8 := lt_of_lt_of_eq h (show cfg0.N = 8 from N_0)
    obtain ⟨-, -, i4, -, s0, s1, s2⟩ := inv c n (Nat.lt_of_succ_lt h)
    replace i4 := i4 (by omega)
    by_cases h7 : n + 1 = 7
    · have e := outsAt0_C m c ⟨n + 1, h⟩ (by dsimp only; omega) (by dsimp only; omega)
      simp only [Nat.add_sub_cancel, i4, s0, s1, s2] at e
      rw [e]
      refine ⟨?_, ?_, fun hl => absurd hl (by omega), fun _ => ⟨?_, ?_⟩, rfl, rfl, ?_⟩
      · dsimp only
        rw [out_C_2, iblk_z]
      · dsimp only
        rw [out_C_3, iblk_z]
      · dsimp only
        rw [out_C_4, iblk_z]
        dsimp only
        obtain rfl : n = 6 := by omega
        rfl
      · dsimp only
        rw [out_C_5, iblk_z]
        dsimp only
        obtain rfl : n = 6 := by omega
        rfl
      · dsimp only
        rw [scr_C_2, iblk_z]
        rfl
    · have e := outsAt0_B m c ⟨n + 1, h⟩ (by dsimp only; omega) (by dsimp only; omega)
      simp only [Nat.add_sub_cancel, i4, s0, s1, s2] at e
      rw [e]
      refine ⟨?_, ?_, fun _ => ?_, fun h7' => absurd h7' h7, rfl, rfl, ?_⟩
      · dsimp only
        rw [out_B_2, iblk_z]
      · dsimp only
        rw [out_B_3, iblk_z]
      · dsimp only
        rw [out_B_4, iblk_z]
        rfl
      · dsimp only
        rw [scr_B_2, iblk_z]
        rfl

/-! ## The arrays the region leaves -/

/-- The chosen rows, all blocks. -/
def arr2 (z : Vec F S8x256x1024 .f32) (e : Vec F S1024x256 .f32) : Vec F S8x256x1024 .f32 := fun i =>
  zq z e (i 0).val (ix3 (0 : Fin 1) (i 1) (i 2))

/-- The chosen indices, all blocks. -/
def arr3 (z : Vec F S8x256x1024 .f32) (e : Vec F S1024x256 .f32) : Vec F S8x1x1024 .i32 := fun i =>
  ind z e (i 0).val (ix3 (0 : Fin 1) (0 : Fin 1) (i 2))

theorem flushed2 (c : Dev nD) (t : Fin cfg0.N) (hf : (cfg0.win 2).flush t = true) :
    (dats m 0 c).flushed 2 t = ((cfg0.win 2).blk t).view.read (Elt F) (arr2 (zin m c) (ein m c)) := by
  obtain ⟨-, -, ⟨h0, h1, h2⟩, -⟩ := idx_facts t
  show (cfg0.win 2).cut (grid0.coords t) ((dats m 0 c).after 2 t) = _
  rw [after0_2, (inv m c t.val t.isLt).1]
  funext j
  rw [View.read_apply]
  show zq (zin m c) (ein m c) t.val j = zq (zin m c) (ein m c) (win0_2.index t 0 * 1 + 1 * (j 0).val) _
  have hj : (j 0).val < 1 := (j 0).isLt
  rw [show win0_2.index t 0 * 1 + 1 * (j 0).val = t.val by rw [h0]; omega]
  congr 1
  funext a
  apply Fin.ext
  match a with
  | ⟨0, _⟩ => show (j 0).val = 0; omega
  | ⟨1, _⟩ => show (j 1).val = win0_2.index t 1 * 256 + 1 * (j 1).val; rw [h1]; omega
  | ⟨2, _⟩ => show (j 2).val = win0_2.index t 2 * 1024 + 1 * (j 2).val; rw [h2]; omega

theorem mem_blk2 (t : Fin cfg0.N) (i : S8x256x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v1_0).slice (win0_2.rect t)).set ↔ _
  rw [View.set_slice_whole, Rect.mem_set_unit]
  exact Iff.rfl

/-- The region leaves the chosen rows in its first output. -/
theorem final2 (c : Dev nD) : (dats m 0 c).arrAt 2 cfg0.N = arr2 (zin m c) (ein m c) :=
  (dats m 0 c).arrAt_eq_of_cover 2 (arr2 (zin m c) (ein m c)) (flushed2 m c) fun (i : S8x256x1024.Idx) => by
    have i0 : (i 0).val < 8 := (i 0).isLt
    have i1 : (i 1).val < 256 := (i 1).isLt
    have i2 : (i 2).val < 1024 := (i 2).isLt
    have hN : cfg0.N = 8 := N_0
    refine ⟨⟨(i 0).val, by omega⟩, flush0_2 _, ?_⟩
    rw [mem_blk2]
    obtain ⟨-, -, ⟨h0, h1, h2⟩, -⟩ := idx_facts ⟨(i 0).val, by omega⟩
    intro a
    match a with
    | ⟨0, _⟩ => show win0_2.index _ 0 * 1 ≤ (i 0).val ∧ (i 0).val < win0_2.index _ 0 * 1 + 1; rw [h0]; dsimp only; omega
    | ⟨1, _⟩ => show win0_2.index _ 1 * 256 ≤ (i 1).val ∧ (i 1).val < win0_2.index _ 1 * 256 + 256; rw [h1]; omega
    | ⟨2, _⟩ => show win0_2.index _ 2 * 1024 ≤ (i 2).val ∧ (i 2).val < win0_2.index _ 2 * 1024 + 1024; rw [h2]; omega

theorem flushed3 (c : Dev nD) (t : Fin cfg0.N) (hf : (cfg0.win 3).flush t = true) :
    (dats m 0 c).flushed 3 t = ((cfg0.win 3).blk t).view.read (Elt F) (arr3 (zin m c) (ein m c)) := by
  obtain ⟨-, -, -, ⟨h0, h1, h2⟩, -⟩ := idx_facts t
  show (cfg0.win 3).cut (grid0.coords t) ((dats m 0 c).after 3 t) = _
  rw [after0_3, (inv m c t.val t.isLt).2.1]
  have key : ∀ (j : S1x1x1024.Idx) (i : S8x1x1024.Idx), (i 0).val = t.val → (i 2).val = (j 2).val →
      ind (zin m c) (ein m c) t.val j = arr3 (zin m c) (ein m c) i := fun j i a b => by
    have hj : (j 0).val < 1 := (j 0).isLt
    have hj1 : (j 1).val < 1 := (j 1).isLt
    unfold arr3
    rw [a]
    congr 1
    funext a
    apply Fin.ext
    match a with
    | ⟨0, _⟩ => show (j 0).val = 0; omega
    | ⟨1, _⟩ => show (j 1).val = 0; omega
    | ⟨2, _⟩ => exact b.symm
  generalize ind (zin m c) (ein m c) t.val = x at key ⊢
  generalize arr3 (zin m c) (ein m c) = y at key ⊢
  funext j
  rw [View.read_apply]
  have hj : (j 0).val < 1 := (j 0).isLt
  show x j = y _
  refine key _ _ ?_ ?_
  · show win0_3.index t 0 * 1 + 1 * (j 0).val = t.val
    rw [h0]; omega
  · show win0_3.index t 2 * 1024 + 1 * (j 2).val = (j 2).val
    rw [h2]; omega

theorem mem_blk3 (t : Fin cfg0.N) (i : S8x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v1_1).slice (win0_3.rect t)).set ↔ _
  rw [View.set_slice_whole, Rect.mem_set_unit]
  exact Iff.rfl

/-- The region leaves the chosen indices in its second output. -/
theorem final3 (c : Dev nD) : (dats m 0 c).arrAt 3 cfg0.N = arr3 (zin m c) (ein m c) :=
  (dats m 0 c).arrAt_eq_of_cover 3 (arr3 (zin m c) (ein m c)) (flushed3 m c) fun (i : S8x1x1024.Idx) => by
    have i0 : (i 0).val < 8 := (i 0).isLt
    have i1 : (i 1).val < 1 := (i 1).isLt
    have i2 : (i 2).val < 1024 := (i 2).isLt
    have hN : cfg0.N = 8 := N_0
    refine ⟨⟨(i 0).val, by omega⟩, flush0_3 _, ?_⟩
    rw [mem_blk3]
    obtain ⟨-, -, -, ⟨h0, h1, h2⟩, -⟩ := idx_facts ⟨(i 0).val, by omega⟩
    intro a
    match a with
    | ⟨0, _⟩ => show win0_3.index _ 0 * 1 ≤ (i 0).val ∧ (i 0).val < win0_3.index _ 0 * 1 + 1; rw [h0]; dsimp only; omega
    | ⟨1, _⟩ => show win0_3.index _ 1 * 1 ≤ (i 1).val ∧ (i 1).val < win0_3.index _ 1 * 1 + 1; rw [h1]; omega
    | ⟨2, _⟩ => show win0_3.index _ 2 * 1024 ≤ (i 2).val ∧ (i 2).val < win0_3.index _ 2 * 1024 + 1024; rw [h2]; omega

/-- The loss, as the region leaves it. -/
abbrev arr4 (z : Vec F S8x256x1024 .f32) (e : Vec F S1024x256 .f32) : Vec F S1x1 .f32 := k0_pay5 (loss z e 7)

/-- The entropy, as the region leaves it. -/
abbrev arr5 (z : Vec F S8x256x1024 .f32) (e : Vec F S1024x256 .f32) : Vec F S1x1 .f32 := k0_pay6 (usage z e 7)

theorem flushed4 (c : Dev nD) (t : Fin cfg0.N) (hf : (cfg0.win 4).flush t = true) :
    (dats m 0 c).flushed 4 t = ((cfg0.win 4).blk t).view.read (Elt F) (arr4 (zin m c) (ein m c)) := by
  have hN : t.val < 8 := lt_of_lt_of_eq t.isLt (show cfg0.N = 8 from N_0)
  have h7 : t.val = 7 := by have := (flush0_4 t).mp hf; omega
  obtain ⟨-, -, -, -, ⟨h0, h1⟩, -⟩ := idx_facts t
  show (cfg0.win 4).cut (grid0.coords t) ((dats m 0 c).after 4 t) = _
  rw [after0_4, ((inv m c t.val t.isLt).2.2.2.1 h7).1]
  funext j
  rw [View.read_apply]
  show arr4 (zin m c) (ein m c) j = arr4 (zin m c) (ein m c) _
  congr 1
  funext a
  apply Fin.ext
  match a with
  | ⟨0, _⟩ => show (j 0).val = win0_4.index t 0 * 1 + 1 * (j 0).val; rw [h0]; omega
  | ⟨1, _⟩ => show (j 1).val = win0_4.index t 1 * 1 + 1 * (j 1).val; rw [h1]; omega

theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v1_2).slice (win0_4.rect t)).set ↔ _
  rw [View.set_slice_whole, Rect.mem_set_unit]
  exact Iff.rfl

/-- The region leaves the loss in its third output. -/
theorem final4 (c : Dev nD) : (dats m 0 c).arrAt 4 cfg0.N = arr4 (zin m c) (ein m c) :=
  (dats m 0 c).arrAt_eq_of_cover 4 (arr4 (zin m c) (ein m c)) (flushed4 m c) fun (i : S1x1.Idx) => by
    have i0 : (i 0).val < 1 := (i 0).isLt
    have i1 : (i 1).val < 1 := (i 1).isLt
    refine ⟨t0_7, (flush0_4 _).mpr rfl, ?_⟩
    rw [mem_blk4]
    obtain ⟨-, -, -, -, ⟨h0, h1⟩, -⟩ := idx_facts t0_7
    intro a
    match a with
    | ⟨0, _⟩ => show win0_4.index _ 0 * 1 ≤ (i 0).val ∧ (i 0).val < win0_4.index _ 0 * 1 + 1; rw [h0]; omega
    | ⟨1, _⟩ => show win0_4.index _ 1 * 1 ≤ (i 1).val ∧ (i 1).val < win0_4.index _ 1 * 1 + 1; rw [h1]; omega

theorem flushed5 (c : Dev nD) (t : Fin cfg0.N) (hf : (cfg0.win 5).flush t = true) :
    (dats m 0 c).flushed 5 t = ((cfg0.win 5).blk t).view.read (Elt F) (arr5 (zin m c) (ein m c)) := by
  have hN : t.val < 8 := lt_of_lt_of_eq t.isLt (show cfg0.N = 8 from N_0)
  have h7 : t.val = 7 := by have := (flush0_5 t).mp hf; omega
  obtain ⟨-, -, -, -, -, ⟨h0, h1⟩⟩ := idx_facts t
  show (cfg0.win 5).cut (grid0.coords t) ((dats m 0 c).after 5 t) = _
  rw [after0_5, ((inv m c t.val t.isLt).2.2.2.1 h7).2]
  funext j
  rw [View.read_apply]
  show arr5 (zin m c) (ein m c) j = arr5 (zin m c) (ein m c) _
  congr 1
  funext a
  apply Fin.ext
  match a with
  | ⟨0, _⟩ => show (j 0).val = win0_5.index t 0 * 1 + 1 * (j 0).val; rw [h0]; omega
  | ⟨1, _⟩ => show (j 1).val = win0_5.index t 1 * 1 + 1 * (j 1).val; rw [h1]; omega

theorem mem_blk5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v1_3).slice (win0_5.rect t)).set ↔ _
  rw [View.set_slice_whole, Rect.mem_set_unit]
  exact Iff.rfl

/-- The region leaves the entropy in its fourth output. -/
theorem final5 (c : Dev nD) : (dats m 0 c).arrAt 5 cfg0.N = arr5 (zin m c) (ein m c) :=
  (dats m 0 c).arrAt_eq_of_cover 5 (arr5 (zin m c) (ein m c)) (flushed5 m c) fun (i : S1x1.Idx) => by
    have i0 : (i 0).val < 1 := (i 0).isLt
    have i1 : (i 1).val < 1 := (i 1).isLt
    refine ⟨t0_7, (flush0_5 _).mpr rfl, ?_⟩
    rw [mem_blk5]
    obtain ⟨-, -, -, -, -, ⟨h0, h1⟩⟩ := idx_facts t0_7
    intro a
    match a with
    | ⟨0, _⟩ => show win0_5.index _ 0 * 1 ≤ (i 0).val ∧ (i 0).val < win0_5.index _ 0 * 1 + 1; rw [h0]; omega
    | ⟨1, _⟩ => show win0_5.index _ 1 * 1 ≤ (i 1).val ∧ (i 1).val < win0_5.index _ 1 * 1 + 1; rw [h1]; omega

/-! ## The run -/

/-- The region finds the first argument reshaped to eight blocks. -/
theorem zin_eq (c : Dev nD) : zin m c = shapeCast S8x256x1024 (m ((c : Thread nD τ).loc main_arg0)) shapeCasts_S8x256x32x32_S8x256x1024 := by
  show StableHlo.after (List.flatten [hostOps0]) (fun b => m (c, b)) (Proc.devRef .tc main_v0) = _
  simp only [hostOps0, List.flatten_cons, List.flatten_nil, List.append_nil]
  after_results
  rfl

/-- The region finds the second argument as launched. -/
theorem ein_eq (c : Dev nD) : ein m c = m ((c : Thread nD τ).loc main_arg1) := V_main_arg1 m c

theorem arr_inj : Function.Injective (Pipeline.arrRef spec0) := by decide

/-- What the four reshapes after the region leave, over any contents. -/
theorem tail_eq (c : Dev nD) (X : Valuation τ sig (Elt F)) :
    StableHlo.after (List.flatten [hostOps1]) X (Proc.devRef .tc main_v2) = shapeCast S8x256x32x32 (X (Proc.devRef .tc main_v1_0) : Vec F S8x256x1024 .f32) shapeCasts_S8x256x1024_S8x256x32x32
    ∧ StableHlo.after (List.flatten [hostOps1]) X (Proc.devRef .tc main_v3) = shapeCast S_ (X (Proc.devRef .tc main_v1_2) : Vec F S1x1 .f32) shapeCasts_S1x1_S_
    ∧ StableHlo.after (List.flatten [hostOps1]) X (Proc.devRef .tc main_v4) = shapeCast S_ (X (Proc.devRef .tc main_v1_3) : Vec F S1x1 .f32) shapeCasts_S1x1_S_
    ∧ StableHlo.after (List.flatten [hostOps1]) X (Proc.devRef .tc main_v5) = shapeCast S8x1024 (X (Proc.devRef .tc main_v1_1) : Vec F S8x1x1024 .i32) shapeCasts_S8x1x1024_S8x1024 := by
  simp only [hostOps1, List.flatten_cons, List.flatten_nil, List.append_nil]
  refine ⟨?_, ?_, ?_, ?_⟩ <;> after_results <;> rfl

/-- The run, read: the four results at the running values' reshapes, the arguments unchanged. -/
theorem run : θ_run defs (onTc (τ := τ) (main (F := F))) ⟨m, fun _ => 0, ρ⟩ fun r => ∀ c : Dev nD,
      r.2.mem ((c : Thread nD τ).loc main_v2) = shapeCast S8x256x32x32 (arr2 (zin m c) (ein m c)) shapeCasts_S8x256x1024_S8x256x32x32
      ∧ r.2.mem ((c : Thread nD τ).loc main_v3) = shapeCast S_ (arr4 (zin m c) (ein m c)) shapeCasts_S1x1_S_
      ∧ r.2.mem ((c : Thread nD τ).loc main_v4) = shapeCast S_ (arr5 (zin m c) (ein m c)) shapeCasts_S1x1_S_
      ∧ r.2.mem ((c : Thread nD τ).loc main_v5) = shapeCast S8x1024 (arr3 (zin m c) (ein m c)) shapeCasts_S8x1x1024_S8x1024
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    have a2 : ∀ w, Pipeline.withArrays (cfgs 0).spec c (V0 m c) (fun w => (dats m 0 c).arrAt w (cfgs 0).N) (Proc.devRef .tc (Pipeline.arrRef spec0 w)) = (dats m 0 c).arrAt w cfg0.N :=
      fun w => Pipeline.withArrays_arr spec0 arr_inj c (V0 m c) (fun w => (dats m 0 c).arrAt w cfg0.N) w
    obtain ⟨t2, t3, t4, t5⟩ := tail_eq c (Pipeline.withArrays (cfgs 0).spec c (V0 m c) (fun w => (dats m 0 c).arrAt w (cfgs 0).N))
    refine ⟨?_, ?_, ?_, ?_, h.2 c⟩
    · exact ((h.1 c).2 main_v2 (Pipeline.mem_restRefs_of main_v2 (by decide) (by decide))).trans
        (t2.trans (congrArg (fun y => shapeCast S8x256x32x32 y shapeCasts_S8x256x1024_S8x256x32x32) ((a2 2).trans (final2 m c))))
    · exact ((h.1 c).2 main_v3 (Pipeline.mem_restRefs_of main_v3 (by decide) (by decide))).trans
        (t3.trans (congrArg (fun y => shapeCast S_ y shapeCasts_S1x1_S_) ((a2 4).trans (final4 m c))))
    · exact ((h.1 c).2 main_v4 (Pipeline.mem_restRefs_of main_v4 (by decide) (by decide))).trans
        (t4.trans (congrArg (fun y => shapeCast S_ y shapeCasts_S1x1_S_) ((a2 5).trans (final5 m c))))
    · exact ((h.1 c).2 main_v5 (Pipeline.mem_restRefs_of main_v5 (by decide) (by decide))).trans
        (t5.trans (congrArg (fun y => shapeCast S8x1024 y shapeCasts_S8x1x1024_S8x1024) ((a2 3).trans (final3 m c)))))
    (θ_run_and (run_main m ρ) (unchanged m ρ))

end Cert.KernelIdeal.Value

end
-- ==== Proof.Spec.lean ====
/- The plain mathematics both programs compute, over the extended reals: vectors divided by their norms, the codebook row
   of the greatest inner product, the loss, the counts and the entropy. -/
module

public import Idealize.ShloMosaic.PureOps.Ideal.Laws
public import Idealize.ShloMosaic.Lib.IdealHost
public import Idealize.ShloMosaic.Lib.WordCmp

@[expose] public section

noncomputable section

namespace Cert.Spec

open Idealize.ShloMosaic

/-! ## The constants -/

/-- The least norm divided by. -/
abbrev eps : EReal := Ideal.ofBits .f32 0x2B8CBCCC#32
/-- What is added to every count. -/
abbrev eps' : EReal := Ideal.ofBits .f32 0x38D1B717#32

theorem eps_real : ∃ r : ℝ, 0 < r ∧ eps = (r : EReal) := by
  refine ⟨(9223372 : ℝ) * 2 ^ (-63 : ℤ), by positivity, ?_⟩
  simp [Ideal.ofBits, Ideal.ieee, -EReal.coe_mul]

theorem c8192 : Ideal.ofBits .f32 0x46000000#32 = ((8192 : ℝ) : EReal) := by
  simp [Ideal.ofBits, Ideal.ieee, -EReal.coe_mul]; norm_num
theorem c125 : Ideal.ofBits .f32 0x3FA00000#32 = ((1.25 : ℝ) : EReal) := by
  simp [Ideal.ofBits, Ideal.ieee, -EReal.coe_mul]; norm_num
theorem c025 : Ideal.ofBits .f32 0x3E800000#32 = ((0.25 : ℝ) : EReal) := by
  simp [Ideal.ofBits, Ideal.ieee, -EReal.coe_mul]; norm_num
theorem cbot : Ideal.ofBits .f32 0xFF800000#32 = ⊥ := by
  simp [Ideal.ofBits, Ideal.ieee]
theorem ctop : Ideal.ofBits .f32 0x7F800000#32 = ⊤ := by
  simp [Ideal.ofBits, Ideal.ieee]

/-! ## A vector divided by its norm -/

/-- A vector divided by its norm, the norm kept off zero. -/
def unit {n : ℕ} (f : Fin n → EReal) (i : Fin n) : EReal :=
  Ideal.div (f i) (max (Ideal.sqrt (∑ j, f j * f j)) eps)

/-- A finite sum of real numbers, as an extended real. -/
theorem coe_sum {ι : Type} (S : Finset ι) (g : ι → ℝ) : ((∑ j ∈ S, g j : ℝ) : EReal) = ∑ j ∈ S, (g j : EReal) :=
  map_sum (⟨⟨Real.toEReal, EReal.coe_zero⟩, EReal.coe_add⟩ : ℝ →+ EReal) g S

/-- A square is not negative. -/
theorem sq_nonneg' (x : EReal) : 0 ≤ x * x := by
  induction x using EReal.rec with
  | bot => simp
  | top => simp
  | coe r => rw [← EReal.coe_mul]; exact EReal.coe_nonneg.2 (mul_self_nonneg r)

/-- Every entry of a vector divided by its norm is a real number, whatever the vector. -/
theorem unit_real {n : ℕ} (f : Fin n → EReal) (i : Fin n) : ∃ r : ℝ, unit f i = (r : EReal) := by
  obtain ⟨ε, hε, he⟩ := eps_real
  by_cases h : ∃ j, f j * f j = ⊤
  · obtain ⟨j, hj⟩ := h
    have hs : ∑ j, f j * f j = ⊤ := top_le_iff.1 (hj ▸ Finset.single_le_sum (f := fun j => f j * f j) (fun i _ => sq_nonneg' (f i)) (Finset.mem_univ j))
    refine ⟨0, ?_⟩
    unfold unit
    rw [hs, Ideal.sqrt_top, max_eq_left le_top]
    simp [Ideal.div]
  · have hr : ∀ j, ∃ r : ℝ, f j = (r : EReal) := fun j => by
      have := not_exists.1 h j
      induction hj : f j using EReal.rec with
      | bot => rw [hj] at this; simp at this
      | top => rw [hj] at this; simp at this
      | coe r => exact ⟨r, rfl⟩
    choose g hg using hr
    have hs : ∑ j, f j * f j = ((∑ j, g j * g j : ℝ) : EReal) := by
      rw [coe_sum]; exact Finset.sum_congr rfl fun j _ => by rw [hg, EReal.coe_mul]
    have h0 : ¬ (∑ j, g j * g j) < 0 := not_lt.2 (Finset.sum_nonneg fun j _ => mul_self_nonneg _)
    unfold unit
    rw [hs, Ideal.sqrt_coe, if_neg h0, he, ← EReal.coe_strictMono.monotone.map_max, Ideal.div_coe (ne_of_gt (lt_max_of_lt_right hε)), hg, ← EReal.coe_mul]
    exact ⟨_, rfl⟩

/-- The real number of an entry of a vector divided by its norm. -/
def unitR {n : ℕ} (f : Fin n → EReal) (i : Fin n) : ℝ := (unit_real f i).choose
theorem unit_eq {n : ℕ} (f : Fin n → EReal) (i : Fin n) : unit f i = (unitR f i : EReal) := (unit_real f i).choose_spec

/-! ## The position of the greatest of finitely many values, the first one of several -/

theorem arg_nonempty {n : ℕ} [NeZero n] (s : Fin n → EReal) : (Finset.univ.filter fun k => ∀ k', s k' ≤ s k).Nonempty := by
  obtain ⟨k, _, hk⟩ := Finset.exists_max_image Finset.univ s ⟨0, Finset.mem_univ _⟩
  exact ⟨k, Finset.mem_filter.2 ⟨Finset.mem_univ _, fun k' => hk k' (Finset.mem_univ _)⟩⟩

/-- The first position of the greatest value. -/
def arg {n : ℕ} [NeZero n] (s : Fin n → EReal) : Fin n := (Finset.univ.filter fun k => ∀ k', s k' ≤ s k).min' (arg_nonempty s)

/-- No value is above the one at `arg`. -/
theorem le_arg {n : ℕ} [NeZero n] (s : Fin n → EReal) (k : Fin n) : s k ≤ s (arg s) :=
  (Finset.mem_filter.1 (Finset.min'_mem _ (arg_nonempty s))).2 k
/-- A position of a greatest value is `arg` or after it. -/
theorem arg_le {n : ℕ} [NeZero n] (s : Fin n → EReal) (k : Fin n) (h : ∀ k', s k' ≤ s k) : arg s ≤ k :=
  Finset.min'_le _ _ (Finset.mem_filter.2 ⟨Finset.mem_univ _, h⟩)
/-- The two properties determine `arg`. -/
theorem eq_arg {n : ℕ} [NeZero n] (s : Fin n → EReal) (k : Fin n) (h : ∀ k', s k' ≤ s k) (h' : ∀ k', s k' = s k → k ≤ k') : k = arg s :=
  le_antisymm (h' _ (le_antisymm (h _) (le_arg s k))) (arg_le s k h)

/-- A kernel's index of a maximum: the least of the positions whose value is the greatest one, a large word standing
    for every other position. -/
theorem fold_minsi_eq_arg {n : ℕ} [NeZero n] (hn : n ≤ 2 ^ 30) (s : Fin n → EReal) :
    Finset.fold IntOp.minsi (2147483647#32)
      (fun k : Fin n => if s k = Finset.fold max (⊥ : EReal) s Finset.univ then BitVec.ofNat 32 k.val else 1073741824#32) Finset.univ
      = BitVec.ofNat 32 (arg s).val := by
  have hmax : ∀ k, s k = Finset.fold max (⊥ : EReal) s Finset.univ ↔ ∀ k', s k' ≤ s k := fun k => by
    have hfold : Finset.fold max (⊥ : EReal) s Finset.univ = Finset.univ.sup s := rfl
    rw [hfold]
    constructor
    · intro h k'; rw [h]; exact Finset.le_sup (Finset.mem_univ k')
    · intro h; exact le_antisymm (Finset.le_sup (Finset.mem_univ k)) (Finset.sup_le fun k' _ => h k')
  simp only [hmax]
  -- the least word of a finite set of words
  have key : ∀ (S : Finset (Fin n)) (g : Fin n → BitVec 32) (a : Fin n), a ∈ S → (∀ k ∈ S, (g a).toInt ≤ (g k).toInt) →
      (g a).toInt ≤ (2147483647#32).toInt → (Finset.fold IntOp.minsi (2147483647#32) g S).toInt = (g a).toInt := by
    intro S g a
    have hmin : ∀ x y : BitVec 32, (IntOp.minsi x y).toInt = min x.toInt y.toInt := fun x y => by
      unfold IntOp.minsi
      rw [BitVec.slt_eq_decide]
      by_cases h : x.toInt < y.toInt
      · simp [h, min_eq_left h.le]
      · simp [h, min_eq_right (not_lt.1 h)]
    have hf : ∀ S : Finset (Fin n), (Finset.fold IntOp.minsi (2147483647#32) g S).toInt = Finset.fold min (2147483647#32).toInt (fun k => (g k).toInt) S := by
      intro S
      induction S using Finset.induction_on with
      | empty => rfl
      | insert b S hb ih => rw [Finset.fold_insert hb, Finset.fold_insert hb, hmin, ih]
    intro ha h h0
    rw [hf]
    refine le_antisymm ((Finset.fold_min_le _).2 (Or.inr ⟨a, ha, le_rfl⟩)) (Finset.le_fold_min _ |>.2 ⟨h0, h⟩)
  have hlt : ∀ k : Fin n, (BitVec.ofNat 32 k.val).toInt = (k.val : Int) := fun k =>
    WordCmp.toInt_ofNat_of_lt (by have := k.isLt; omega)
  have e := key Finset.univ (fun k : Fin n => if ∀ k', s k' ≤ s k then BitVec.ofNat 32 k.val else 1073741824#32) (arg s) (Finset.mem_univ _)
    (fun k _ => by
      rw [if_pos (le_arg s), hlt]
      split
      · next h => rw [hlt]; exact_mod_cast arg_le s k h
      · have := (arg s).isLt
        have h2 : (1073741824#32).toInt = 1073741824 := rfl
        rw [h2]; omega)
    (by
      rw [if_pos (le_arg s), hlt]
      have := (arg s).isLt
      have h2 : (2147483647#32).toInt = 2147483647 := rfl
      rw [h2]; omega)
  rw [if_pos (le_arg s)] at e
  exact BitVec.eq_of_toInt_eq e

/-! ## The results, of the image `Z` (image, pixel, channel) and the codebook `E` (row, channel) -/

variable (Z : Fin 8 → Fin 1024 → Fin 256 → EReal) (E : Fin 1024 → Fin 256 → EReal)

/-- The inner products of a pixel with the codebook's rows, all of length one. -/
def sim (b : Fin 8) (p : Fin 1024) (k : Fin 1024) : EReal := ∑ c, unit (E k) c * unit (Z b p) c
/-- The row chosen for a pixel. -/
def idx (b : Fin 8) (p : Fin 1024) : Fin 1024 := arg (sim Z E b p)
/-- The chosen row's entry. -/
def quant (b : Fin 8) (p : Fin 1024) (c : Fin 256) : EReal := unit (E (idx Z E b p)) c
/-- The sum of squared differences. -/
def sq : EReal := ∑ b, ∑ p, ∑ c, (quant Z E b p c - unit (Z b p) c) * (quant Z E b p c - unit (Z b p) c)
/-- The loss. -/
def lossR : EReal := Ideal.ofBits .f32 0x3FA00000#32 * Ideal.div (sq Z E) (Ideal.ofBits .f32 0x46000000#32)
/-- How often a row is chosen. -/
def cnt (k : Fin 1024) : EReal := ∑ b, ∑ p, if idx Z E b p = k then (1 : EReal) else 0
/-- A row's share, every count a little increased. -/
def prob (k : Fin 1024) : EReal := Ideal.div (cnt Z E k + eps') (∑ k, (cnt Z E k + eps'))
/-- The entropy of the shares. -/
def ent : EReal := -∑ k, prob Z E k * Ideal.log (prob Z E k)

/-- The sum of squared differences is a real number. -/
theorem sq_real : ∃ r : ℝ, sq Z E = (r : EReal) := by
  refine ⟨∑ b, ∑ p, ∑ c, (unitR (E (idx Z E b p)) c - unitR (Z b p) c) * (unitR (E (idx Z E b p)) c - unitR (Z b p) c), ?_⟩
  simp only [sq, quant, unit_eq, coe_sum, EReal.coe_mul, EReal.coe_sub]

/-- A quarter of a mean and the mean are five quarters of it. -/
theorem quarter_add : Ideal.ofBits .f32 0x3E800000#32 * Ideal.div (sq Z E) (Ideal.ofBits .f32 0x46000000#32)
    + Ideal.div (sq Z E) (Ideal.ofBits .f32 0x46000000#32) = lossR Z E := by
  obtain ⟨r, hr⟩ := sq_real Z E
  unfold lossR
  rw [hr, c025, c125, c8192, Ideal.div_coe (by norm_num), ← EReal.coe_mul, ← EReal.coe_mul, ← EReal.coe_add, ← EReal.coe_mul]
  congr 1; ring

/-- Adding the difference to a pixel gives the chosen row. -/
theorem add_sub (b : Fin 8) (p : Fin 1024) (c : Fin 256) : unit (Z b p) c + (quant Z E b p c - unit (Z b p) c) = quant Z E b p c := by
  unfold quant
  rw [unit_eq, unit_eq, ← EReal.coe_sub, ← EReal.coe_add]
  congr 1; ring

end Cert.Spec

end
-- ==== Proof.KernelRead.lean ====
/- The kernel's payloads at the extended reals, read at an index: the vectors divided by their norms, the index of the
   greatest inner product, the chosen rows, the loss and the entropy. -/
module

public import proofs.«01_k».proof.Proof.Value
public import proofs.«01_k».proof.Proof.Spec
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pointwise

/-! ## The payloads, of any operands -/

/-- A pixel's channel vector divided by its norm. -/
theorem pay12_apply (x : Vec Ideal S1x256x1024 .f32) (c : Fin 256) (p : Fin 1024) :
    k0_pay12 x (ix2 c p) = Spec.unit (fun c => x (ix3 0 c p)) c := by
  pointwise [k0_pay12]
  rfl

/-- A codebook row divided by its norm. -/
theorem pay8_apply (e : Vec Ideal S1024x256 .f32) (k : Fin 1024) (c : Fin 256) :
    k0_pay8 e (ix2 k c) = Spec.unit (fun c => e (ix2 k c)) c := by
  pointwise [k0_pay8, k0_pay7]
  rfl

/-- The same, transposed. -/
theorem pay9_apply (e : Vec Ideal S1024x256 .f32) (k : Fin 1024) (c : Fin 256) :
    k0_pay9 e (ix2 c k) = Spec.unit (fun c => e (ix2 k c)) c := by
  pointwise [k0_pay9, k0_pay7]
  rfl

/-- The index of the greatest inner product. -/
theorem pay13_apply (x : Vec Ideal S1x256x1024 .f32) (w : Vec Ideal S1024x256 .f32) (p : Fin 1024) :
    k0_pay13 x w (ix2 0 p) = BitVec.ofNat 32 (Spec.arg fun k : Fin 1024 => ∑ c, w (ix2 k c) * k0_pay12 x (ix2 c p)).val := by
  refine Eq.trans ?_ (Spec.fold_minsi_eq_arg (by norm_num) fun k : Fin 1024 => ∑ c, w (ix2 k c) * k0_pay12 x (ix2 c p))
  rw [← Spec.cbot]
  pointwise [k0_pay13]

/-- The index, as the kernel writes it. -/
theorem pay14_apply (x : Vec Ideal S1x256x1024 .f32) (w : Vec Ideal S1024x256 .f32) (p : Fin 1024) :
    k0_pay14 x w (ix3 0 0 p) = k0_pay13 x w (ix2 0 p) := by
  pointwise [k0_pay14]

/-- The indicator of the chosen row. -/
theorem pay15_apply (x : Vec Ideal S1x256x1024 .f32) (w : Vec Ideal S1024x256 .f32) (k p : Fin 1024) (a : Fin 1024)
    (h : k0_pay13 x w (ix2 0 p) = BitVec.ofNat 32 a.val) : k0_pay15 x w (ix2 k p) = if a = k then (1 : EReal) else 0 := by
  have e : k0_pay15 x w (ix2 k p)
      = FloatOps.sitofp .f32 (BitVec.setWidth 32 (IntOp.cmpi .eq (BitVec.ofNat 32 k.val) (k0_pay13 x w (ix2 0 p)))) := by
    pointwise [k0_pay15]
  rw [e, h, WordCmp.cmpi_eq_eq]
  have hk := k.isLt
  have ha := a.isLt
  by_cases hc : a = k
  · subst hc
    simp [FloatOps.sitofp]
  · have : ¬ BitVec.ofNat 32 k.val = BitVec.ofNat 32 a.val := fun q =>
      hc (Fin.ext ((WordCmp.ofNat_eq_ofNat_iff (by omega) (by omega)).1 q).symm)
    simp [FloatOps.sitofp, this, hc]

/-- The counts after one more image. -/
theorem pay1_apply (x : Vec Ideal S1x256x1024 .f32) (w : Vec Ideal S1024x256 .f32) (u : Vec Ideal S1024x1 .f32) (k : Fin 1024) :
    k0_pay1 (k0_pay16 x w u) (ix2 k 0) = u (ix2 k 0) + ∑ p, k0_pay15 x w (ix2 k p) := by
  pointwise [k0_pay1, k0_pay16]

/-- The rows picked out by the indicators. -/
theorem pay2_apply (h : Vec Ideal S1024x1024 .f32) (t : Vec Ideal S256x1024 .f32) (c : Fin 256) (p : Fin 1024) :
    k0_pay2 h t (ix2 c p) = ∑ k, t (ix2 c k) * h (ix2 k p) := by
  pointwise [k0_pay2]
/-- The same, as the kernel writes them. -/
theorem pay3_apply (h : Vec Ideal S1024x1024 .f32) (t : Vec Ideal S256x1024 .f32) (c : Fin 256) (p : Fin 1024) :
    k0_pay3 h t (ix3 0 c p) = k0_pay2 h t (ix2 c p) := by
  pointwise [k0_pay3]

/-- The sum of squared differences after one more image. -/
theorem pay4_apply (v : Vec Ideal S256x1024 .f32) (h : Vec Ideal S1024x1024 .f32) (t : Vec Ideal S256x1024 .f32) (l : Vec Ideal S1x1 .f32) :
    k0_pay4 v h t l (ix2 0 0)
      = l (ix2 0 0) + ∑ c, ∑ p, (k0_pay2 h t (ix2 c p) - v (ix2 c p)) * (k0_pay2 h t (ix2 c p) - v (ix2 c p)) := by
  pointwise [k0_pay4]

/-- The loss of a sum of squared differences. -/
theorem pay5_apply (l : Vec Ideal S1x1 .f32) :
    k0_pay5 l (ix2 0 0) = Ideal.ofBits .f32 0x3FA00000#32 * Ideal.div (l (ix2 0 0)) (Ideal.ofBits .f32 0x46000000#32) := by
  pointwise [k0_pay5]

/-- The entropy of the counts. -/
theorem pay6_apply (l : Vec Ideal S1024x1 .f32) :
    k0_pay6 l (ix2 0 0) = -∑ k : Fin 1024, Ideal.div (l (ix2 k 0) + Spec.eps') (∑ k : Fin 1024, (l (ix2 k 0) + Spec.eps'))
      * Ideal.log (Ideal.div (l (ix2 k 0) + Spec.eps') (∑ k : Fin 1024, (l (ix2 k 0) + Spec.eps'))) := by
  pointwise [k0_pay6]
  simp only [Fin.sum_univ_one, zero_sub, Finset.univ_unique, Finset.sum_singleton]

theorem pay10_apply (k : Fin 1024) : k0_pay10 (F := Ideal) (ix2 k 0) = 0 := by
  pointwise [k0_pay10]
theorem pay11_apply : k0_pay11 (F := Ideal) (ix2 0 0) = 0 := by
  pointwise [k0_pay11]

/-! ## The kernel's values, of its image `z` and codebook `e` -/

/-- The image as a function of image, pixel and channel. -/
def img (z : Vec Ideal S8x256x1024 .f32) (b : Fin 8) (p : Fin 1024) (c : Fin 256) : EReal := z (ix3 b c p)
/-- The codebook as a function of row and channel. -/
def book (e : Vec Ideal S1024x256 .f32) (k : Fin 1024) (c : Fin 256) : EReal := e (ix2 k c)

variable (z : Vec Ideal S8x256x1024 .f32) (e : Vec Ideal S1024x256 .f32)

theorem zb_apply (b : Fin 8) (c : Fin 256) (p : Fin 1024) : zb z b.val (ix3 0 c p) = img z b p c := by
  unfold zb img
  congr 1
  funext a
  match a with
  | ⟨0, _⟩ => exact Fin.ext (Nat.mod_eq_of_lt b.isLt)
  | ⟨1, _⟩ => rfl
  | ⟨2, _⟩ => rfl

/-- A pixel divided by its norm. -/
theorem pixel_apply (b : Fin 8) (c : Fin 256) (p : Fin 1024) : k0_pay12 (zb z b.val) (ix2 c p) = Spec.unit (img z b p) c := by
  rw [pay12_apply]
  congr 1
  funext c
  exact zb_apply z b c p

/-- The chosen row's index. -/
theorem index_apply (b : Fin 8) (p : Fin 1024) :
    k0_pay13 (zb z b.val) (W e) (ix2 0 p) = BitVec.ofNat 32 (Spec.idx (img z) (book e) b p).val := by
  rw [pay13_apply]
  unfold Spec.idx Spec.sim W
  simp only [pixel_apply, pay8_apply]
  rfl

theorem ind_apply (b : Fin 8) (p : Fin 1024) :
    ind z e b.val (ix3 0 0 p) = BitVec.ofNat 32 (Spec.idx (img z) (book e) b p).val := by
  unfold ind
  rw [pay14_apply, index_apply]

/-- The indicator of the chosen row. -/
theorem hot_apply (b : Fin 8) (k p : Fin 1024) :
    hot z e b.val (ix2 k p) = if Spec.idx (img z) (book e) b p = k then (1 : EReal) else 0 :=
  pay15_apply _ _ k p _ (index_apply z e b p)

/-- The chosen row's entry. -/
theorem quant_apply (b : Fin 8) (c : Fin 256) (p : Fin 1024) :
    k0_pay2 (hot z e b.val) (T e) (ix2 c p) = Spec.quant (img z) (book e) b p c := by
  rw [pay2_apply]
  simp only [hot_apply, mul_ite, mul_one, mul_zero, Finset.sum_ite_eq, Finset.mem_univ, if_true]
  unfold T Spec.quant
  rw [pay9_apply]
  rfl

theorem zq_apply (b : Fin 8) (c : Fin 256) (p : Fin 1024) :
    zq z e b.val (ix3 0 c p) = Spec.quant (img z) (book e) b p c := by
  unfold zq
  rw [pay3_apply, quant_apply]

/-- One image's sum of squared differences. -/
def imageSq (b : Fin 8) : EReal :=
  ∑ p, ∑ c, (Spec.quant (img z) (book e) b p c - Spec.unit (img z b p) c) * (Spec.quant (img z) (book e) b p c - Spec.unit (img z b p) c)

theorem step_loss (b : Fin 8) (l : Vec Ideal S1x1 .f32) :
    k0_pay4 (k0_pay12 (zb z b.val)) (hot z e b.val) (T e) l (ix2 0 0) = l (ix2 0 0) + imageSq z e b := by
  rw [pay4_apply]
  simp only [quant_apply, pixel_apply]
  rw [Finset.sum_comm]
  rfl

/-- The accumulated sum of squared differences. -/
theorem loss_apply (n : ℕ) (hn : n < 8) : loss z e n (ix2 0 0) = ∑ i : Fin (n + 1), imageSq z e ⟨i.val, by omega⟩ := by
  induction n with
  | zero =>
    rw [Fin.sum_univ_one]
    refine (step_loss z e 0 _).trans ?_
    rw [pay11_apply, zero_add]
    rfl
  | succ n ih =>
    rw [Fin.sum_univ_castSucc]
    refine (step_loss z e ⟨n + 1, hn⟩ _).trans ?_
    rw [ih (by omega)]
    rfl

theorem loss_last : loss z e 7 (ix2 0 0) = Spec.sq (img z) (book e) := loss_apply z e 7 (by norm_num)

/-- How often one image chooses a row. -/
def imageCnt (k : Fin 1024) (b : Fin 8) : EReal := ∑ p, if Spec.idx (img z) (book e) b p = k then (1 : EReal) else 0

theorem step_usage (b : Fin 8) (u : Vec Ideal S1024x1 .f32) (k : Fin 1024) :
    k0_pay1 (k0_pay16 (zb z b.val) (W e) u) (ix2 k 0) = u (ix2 k 0) + imageCnt z e k b := by
  rw [pay1_apply]
  unfold imageCnt
  exact congrArg _ (Finset.sum_congr rfl fun p _ => hot_apply z e b k p)

/-- The accumulated counts. -/
theorem usage_apply (k : Fin 1024) (n : ℕ) (hn : n < 8) : usage z e n (ix2 k 0) = ∑ i : Fin (n + 1), imageCnt z e k ⟨i.val, by omega⟩ := by
  induction n with
  | zero =>
    rw [Fin.sum_univ_one]
    refine (step_usage z e 0 _ k).trans ?_
    rw [pay10_apply, zero_add]
    rfl
  | succ n ih =>
    rw [Fin.sum_univ_castSucc]
    refine (step_usage z e ⟨n + 1, hn⟩ _ k).trans ?_
    rw [ih (by omega)]
    rfl

theorem usage_last (k : Fin 1024) : usage z e 7 (ix2 k 0) = Spec.cnt (img z) (book e) k := usage_apply z e k 7 (by norm_num)

/-! ## The four result arrays -/

theorem arr2_apply (b : Fin 8) (c : Fin 256) (p : Fin 1024) : arr2 z e (ix3 b c p) = Spec.quant (img z) (book e) b p c :=
  zq_apply z e b c p
theorem arr3_apply (b : Fin 8) (p : Fin 1024) : arr3 z e (ix3 b 0 p) = BitVec.ofNat 32 (Spec.idx (img z) (book e) b p).val :=
  ind_apply z e b p
theorem arr4_apply : arr4 z e (ix2 0 0) = Spec.lossR (img z) (book e) := by
  unfold arr4 Spec.lossR
  rw [pay5_apply, loss_last]
theorem arr5_apply : arr5 z e (ix2 0 0) = Spec.ent (img z) (book e) := by
  unfold arr5 Spec.ent Spec.prob
  rw [pay6_apply]
  simp only [usage_last]

end Cert.KernelIdeal.Value

end
-- ==== Proof.RefTerms.lean ====
/- The reference's values as terms of its two arguments: `z`, the input image, and `e`, the codebook. -/
module

public import proofs.«01_k».proof.Proof.Gen.ReferenceIdeal

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- The input image, channels last. -/
def zt (z : Vec F S8x256x32x32 .f32) : Vec F S8x32x32x256 .f32 :=
  transpose S8x32x32x256 [0, 2, 3, 1] z transposes_S8x256x32x32_S8x32x32x256_0_2_3_1

/-- Each pixel's channel vector divided by its norm, the norm kept off zero. -/
def unitZ (x : Vec F S8x32x32x256 .f32) : Vec F S8x32x32x256 .f32 :=
  Host.divf x (broadcastInDim S8x32x32x256 ![0, 1, 2, 3] bcast_S8x32x32x1_S8x32x32x256_0_1_2_3 (maximumf (Host.sqrt (broadcastInDim S8x32x32x1 ![0, 1, 2] bcast_S8x32x32_S8x32x32x1_0_1_2 (Host.reduceAdd (mulf x x) (constant S_ .f32 0x00000000#32) reducesTo_S8x32x32x256_S8x32x32_d3 h_S_))) (broadcastInDim S8x32x32x1 ![] bcast_S_S8x32x32x1 (constant S_ .f32 0x2B8CBCCC#32))))

/-- Each codebook row divided by its norm, the norm kept off zero. -/
def unitE (e : Vec F S1024x256 .f32) : Vec F S1024x256 .f32 :=
  Host.divf e (broadcastInDim S1024x256 ![0, 1] bcast_S1024x1_S1024x256_0_1 (maximumf (Host.sqrt (broadcastInDim S1024x1 ![0] bcast_S1024_S1024x1_0 (Host.reduceAdd (mulf e e) (constant S_ .f32 0x00000000#32) reducesTo_S1024x256_S1024_d1 h_S_))) (broadcastInDim S1024x1 ![] bcast_S_S1024x1 (constant S_ .f32 0x2B8CBCCC#32))))

/-- The distances, up to a constant: minus each pixel's inner product with each codebook row. -/
def dist (z : Vec F S8x256x32x32 .f32) (e : Vec F S1024x256 .f32) : Vec F S8192x1024 .f32 :=
  Host.dotGeneral dot_S8192x256_S256x1024_S8192x1024_1_0_0_1_n_n none (Host.negf (shapeCast S8192x256 (unitZ (zt z)) shapeCasts_S8x32x32x256_S8192x256)) (transpose S256x1024 [1, 0] (unitE e) transposes_S1024x256_S256x1024_1_0)

/-- The column of each row's least value. -/
def argmin (d : Vec F S8192x1024 .f32) : Vec F S8192 .i32 := fun j =>
  (Host.argReduce reducer_argmin_f32_i32 d (iotaInDim S8192x1024 32 1) (constant S_ .f32 0x7F800000#32) (constantI S_ 32 0#32) reducesTo_S8192x1024_S8192_d1 h_S_ j).2

/-- The position of each pixel's least distance. -/
def pos (z : Vec F S8x256x32x32 .f32) (e : Vec F S1024x256 .f32) : Vec F S8192 .i32 := argmin (dist z e)

/-- The counts' indices: a negative position would be taken as zero, and wrapped. -/
def cidx (y : Vec F S8192 .i32) : Vec F S8192x1 .i32 :=
  broadcastInDim S8192x1 ![0] bcast_S8192_S8192x1_0 (select (cmpi .slt y (broadcastInDim S8192 ![] bcast_S_S8192 (constantI S_ 32 0#32))) (addi y (broadcastInDim S8192 ![] bcast_S_S8192 (constantI S_ 32 1024#32))) y)

/-- How often each position occurs. -/
def count (y : Vec F S8192 .i32) : Vec F S1024 .i32 :=
  Host.scatter scatter_S1024_S8192x1_S8192_n_0_0_1 IntOp.addi (broadcastInDim S1024 ![] bcast_S_S1024 (constantI S_ 32 0#32)) (cidx (F := F) (maxsi (broadcastInDim S8192 ![] bcast_S_S8192 (id (constantI S_ 32 0#32))) y)) (broadcastInDim S8192 ![] bcast_S_S8192 (constantI S_ 32 1#32))

/-- The counts, each increased by a small constant. -/
def offs (n : Vec F S1024 .i32) : Vec F S1024 .f32 :=
  id (addf (sitofp .f32 n) (broadcastInDim S1024 ![] bcast_S_S1024 (constant S_ .f32 0x38D1B717#32)))

/-- … divided by their sum. -/
def prob (n : Vec F S1024 .i32) : Vec F S1024 .f32 :=
  Host.divf (offs n) (broadcastInDim S1024 ![] bcast_S_S1024 (Host.reduceAdd (offs n) (constant S_ .f32 0x00000000#32) reducesTo_S1024_S_d0 h_S_))

/-- The entropy of the choice. -/
def entr (p : Vec F S1024 .f32) : Vec F S_ .f32 :=
  Host.negf (Host.reduceAdd (mulf p (Host.log p)) (constant S_ .f32 0x00000000#32) reducesTo_S1024_S_d0 h_S_)

/-- The codebook rows at the positions, one row per pixel; a position outside the codebook would give no number. -/
def rows (e : Vec F S1024x256 .f32) (y : Vec F S8192 .i32) : Vec F S8192x256 .f32 :=
  select (broadcastInDim S8192x256 ![0] bcast_S8192_S8192x256_0 (Host.reduce IntOp.andi (andi (cmpi .sge (cidx (F := F) y) (broadcastInDim S8192x1 ![] bcast_S_S8192x1 (constantI S_ 32 0#32))) (cmpi .sle (cidx (F := F) y) (broadcastInDim S8192x1 ![0, 1] bcast_S1x1_S8192x1_0_1 (broadcastInDim S1x1 ![1] bcast_S1_S1x1_1 (constantI S1 32 1023#32))))) (constantI S_ 1 1#1) reducesTo_S8192x1_S8192_d1 h_S_)) (Host.gather gather_S1024x256_S8192x1_S8192x256_1_0_n_n_0_1_1256 e (cidx (F := F) y)) (broadcastInDim S8192x256 ![] bcast_S_S8192x256 (constant S_ .f32 0x7FC00000#32))

/-- The chosen codebook rows, normalised, channels last. -/
def sel (z : Vec F S8x256x32x32 .f32) (e : Vec F S1024x256 .f32) : Vec F S8x32x32x256 .f32 :=
  unitZ (shapeCast S8x32x32x256 (rows e (pos z e)) shapeCasts_S8192x256_S8x32x32x256)

/-- The sum of squares of a difference, divided by the number of pixels. -/
def msq (d : Vec F S8x32x32x256 .f32) : Vec F S_ .f32 :=
  Host.divf (Host.reduceAdd (Host.reduceAdd (mulf d d) (constant S_ .f32 0x00000000#32) reducesTo_S8x32x32x256_S8x32x32_d3 h_S_) (constant S_ .f32 0x00000000#32) reducesTo_S8x32x32_S_d0_1_2 h_S_) (constant S_ .f32 0x46000000#32)

/-- The first result: the chosen rows, channels second. -/
def out0 (z : Vec F S8x256x32x32 .f32) (e : Vec F S1024x256 .f32) : Vec F S8x256x32x32 .f32 :=
  transpose S8x256x32x32 [0, 3, 1, 2] (addf (unitZ (zt z)) (subf (sel z e) (unitZ (zt z)))) transposes_S8x32x32x256_S8x256x32x32_0_3_1_2

/-- The second result: the loss. -/
def out1 (z : Vec F S8x256x32x32 .f32) (e : Vec F S1024x256 .f32) : Vec F S_ .f32 :=
  addf (mulf (constant S_ .f32 0x3E800000#32) (msq (subf (sel z e) (unitZ (zt z))))) (msq (subf (sel z e) (unitZ (zt z))))

/-- The third result: the entropy. -/
def out2 (z : Vec F S8x256x32x32 .f32) (e : Vec F S1024x256 .f32) : Vec F S_ .f32 :=
  entr (prob (F := F) (count (F := F) (pos z e)))

/-- The fourth result: the positions, one row per image. -/
def out3 (z : Vec F S8x256x32x32 .f32) (e : Vec F S1024x256 .f32) : Vec F S8x1024 .i32 :=
  shapeCast S8x1024 (pos z e) shapeCasts_S8192_S8x1024

end Cert.ReferenceIdeal.Value

end
-- ==== Proof.RefRead.lean ====
/- The reference's terms at the extended reals, read at an index: the vectors divided by their norms, the position of the
   least distance, the counts, the gathered rows, the loss and the entropy. -/
module

public import proofs.«01_k».proof.Proof.RefTerms
public import proofs.«01_k».proof.Proof.Spec
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pointwise

/-! ## The terms, of any operands -/

theorem zt_apply (z : Vec Ideal S8x256x32x32 .f32) (b : Fin 8) (h w : Fin 32) (c : Fin 256) : zt z (ix4 b h w c) = z (ix4 b c h w) := by
  pointwise [zt]

theorem unitZ_apply (x : Vec Ideal S8x32x32x256 .f32) (b : Fin 8) (h w : Fin 32) (c : Fin 256) :
    unitZ x (ix4 b h w c) = Spec.unit (fun c => x (ix4 b h w c)) c := by
  pointwise [unitZ]
  rfl

theorem unitE_apply (e : Vec Ideal S1024x256 .f32) (k : Fin 1024) (c : Fin 256) :
    unitE e (ix2 k c) = Spec.unit (fun c => e (ix2 k c)) c := by
  pointwise [unitE]
  rfl

theorem dist_apply' (z : Vec Ideal S8x256x32x32 .f32) (e : Vec Ideal S1024x256 .f32) (r : Fin 8192) (k : Fin 1024) :
    dist z e (ix2 r k)
      = ∑ c : Fin 256, -unitZ (zt z) (ix4 ⟨r.val / 1024, by omega⟩ ⟨r.val / 32 % 32, by omega⟩ ⟨r.val % 32, by omega⟩ c) * unitE e (ix2 k c) := by
  pointwise [dist]

/-- The rows, one per pixel, as an image. -/
theorem reshape_apply (x : Vec Ideal S8192x256 .f32) (b : Fin 8) (h w : Fin 32) (c : Fin 256) :
    shapeCast S8x32x32x256 x shapeCasts_S8192x256_S8x32x32x256 (ix4 b h w c) = x (ix2 ⟨b.val * 1024 + h.val * 32 + w.val, by omega⟩ c) := by
  pointwise

/-- The positions, one row per image. -/
theorem positions_apply (y : Vec Ideal S8192 .i32) (b : Fin 8) (p : Fin 1024) :
    shapeCast S8x1024 y shapeCasts_S8192_S8x1024 (ix2 b p) = y (ix1 ⟨b.val * 1024 + p.val, by omega⟩) := by
  pointwise

theorem msq_apply (d : Vec Ideal S8x32x32x256 .f32) :
    msq d ix0 = Ideal.div (∑ b : Fin 8, ∑ h : Fin 32, ∑ w : Fin 32, ∑ c : Fin 256, d (ix4 b h w c) * d (ix4 b h w c)) (Ideal.ofBits .f32 0x46000000#32) := by
  pointwise [msq]

theorem offs_apply (n : Vec Ideal S1024 .i32) (k : Fin 1024) : offs n (ix1 k) = FloatOps.sitofp (F := Ideal) .f32 (n (ix1 k)) + Spec.eps' := by
  unfold offs
  rw [id]
  pointwise

theorem prob_apply (n : Vec Ideal S1024 .i32) (k : Fin 1024) :
    prob n (ix1 k) = Ideal.div (offs n (ix1 k)) (∑ k, offs n (ix1 k)) := by
  unfold prob
  generalize offs n = o
  pointwise

theorem entr_apply (q : Vec Ideal S1024 .f32) : entr q ix0 = -∑ k, q (ix1 k) * Ideal.log (q (ix1 k)) := by
  pointwise [entr]

theorem out0_apply' (z : Vec Ideal S8x256x32x32 .f32) (e : Vec Ideal S1024x256 .f32) (b : Fin 8) (c : Fin 256) (h w : Fin 32) :
    out0 z e (ix4 b c h w) = unitZ (zt z) (ix4 b h w c) + (sel z e (ix4 b h w c) - unitZ (zt z) (ix4 b h w c)) := by
  pointwise [out0]

theorem out1_apply' (z : Vec Ideal S8x256x32x32 .f32) (e : Vec Ideal S1024x256 .f32) :
    out1 z e ix0 = Ideal.ofBits .f32 0x3E800000#32 * msq (subf (sel z e) (unitZ (zt z))) ix0 + msq (subf (sel z e) (unitZ (zt z))) ix0 := by
  pointwise [out1]

/-! ## The position of the least value -/

/-- One pair comes before another: its value is less, or equal with an index at most the other's. -/
def before (p q : EReal × BitVec 32) : Prop := p.1 < q.1 ∨ p.1 = q.1 ∧ p.2.toInt ≤ q.2.toInt

theorem before_trans {p q r : EReal × BitVec 32} (h : before p q) (h' : before q r) : before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The body of the reduction keeps the pair that comes first. -/
theorem reducer_spec (p q : EReal × BitVec 32) :
    (reducer_argmin_f32_i32 (F := Ideal) p q = p ∨ reducer_argmin_f32_i32 (F := Ideal) p q = q)
      ∧ before (reducer_argmin_f32_i32 (F := Ideal) p q) p ∧ before (reducer_argmin_f32_i32 (F := Ideal) p q) q := by
  obtain ⟨a, i⟩ := p
  obtain ⟨b, j⟩ := q
  have e : reducer_argmin_f32_i32 (F := Ideal) (a, i) (b, j) = if a < b ∨ (a = b ∧ i.toInt < j.toInt) then (a, i) else (b, j) := by
    unfold reducer_argmin_f32_i32
    simp only [Ideal.cmpf_def, Ideal.cmp, WordCmp.cmpi_slt_eq]
    by_cases h1 : a < b
    · simp [h1, h1.ne, Scalar.select, IntOp.ori, IntOp.andi]
    · by_cases h2 : a = b
      · subst h2
        by_cases h3 : i.toInt < j.toInt <;> simp [h3, Scalar.select, IntOp.ori, IntOp.andi]
      · simp [h1, h2, Scalar.select, IntOp.ori, IntOp.andi]
  rw [e]
  split
  · next h =>
    refine ⟨Or.inl rfl, Or.inr ⟨rfl, le_rfl⟩, ?_⟩
    rcases h with h | ⟨h, h'⟩
    · exact Or.inl h
    · exact Or.inr ⟨h, h'.le⟩
  · next h =>
    refine ⟨Or.inr rfl, ?_, Or.inr ⟨rfl, le_rfl⟩⟩
    rw [not_or, not_and, not_lt] at h
    rcases lt_or_eq_of_le h.1 with h1 | h1
    · exact Or.inl h1
    · exact Or.inr ⟨h1, not_lt.1 (h.2 h1.symm)⟩

/-- The reduction of a list keeps a pair of the list, or the initial one, that comes before all of them. -/
theorem foldl_reducer (l : List (EReal × BitVec 32)) (p : EReal × BitVec 32) :
    (l.foldl (reducer_argmin_f32_i32 (F := Ideal)) p = p ∨ l.foldl (reducer_argmin_f32_i32 (F := Ideal)) p ∈ l)
      ∧ before (l.foldl (reducer_argmin_f32_i32 (F := Ideal)) p) p
      ∧ ∀ q ∈ l, before (l.foldl (reducer_argmin_f32_i32 (F := Ideal)) p) q := by
  induction l generalizing p with
  | nil => exact ⟨Or.inl rfl, Or.inr ⟨rfl, le_rfl⟩, fun q h => absurd h (by simp)⟩
  | cons a l ih =>
    obtain ⟨i1, i2, i3⟩ := ih (reducer_argmin_f32_i32 (F := Ideal) p a)
    obtain ⟨r1, r2, r3⟩ := reducer_spec p a
    rw [List.foldl_cons]
    refine ⟨?_, before_trans i2 r2, fun q hq => ?_⟩
    · rcases i1 with i1 | i1
      · rw [i1]
        rcases r1 with r1 | r1
        · exact Or.inl r1
        · exact Or.inr (List.mem_cons.2 (Or.inl r1))
      · exact Or.inr (List.mem_cons.2 (Or.inr i1))
    · rcases List.mem_cons.1 hq with rfl | hq
      · exact before_trans i2 r3
      · exact i3 q hq

/-- A reduction of pairs at an index is the fold over the index's pairs. -/
theorem argReduce_fold {s t u : Shape} {axes : List (Fin s.rank)} {β : Type} (f : EReal × β → EReal × β → EReal × β) (x : FVec Ideal s .f32)
    (y : s.Idx → β) (ix : FVec Ideal u .f32) (iy : u.Idx → β) (h : s.ReducesTo axes t) (hu : 0 < u.numel) (j : t.Idx) :
    Host.argReduce (F := Ideal) (φ := .f32) f x y ix iy h hu j
      = (Host.argReduceFiber x y h j).foldl f (ix (Shape.Idx.first hu), iy (Shape.Idx.first hu)) := by
  rw [Ideal.argReduce_eq_reduce2, Host.reduce2_eq_foldl_fiber]

theorem argmin_def (d : Vec Ideal S8192x1024 .f32) :
    argmin d = fun j => (Host.argReduce (F := Ideal) reducer_argmin_f32_i32 d (iotaInDim S8192x1024 32 1) (constant S_ .f32 0x7F800000#32)
      (constantI S_ 32 0#32) reducesTo_S8192x1024_S8192_d1 h_S_ j).2 := rfl

/-- The reduction of a matrix of finite numbers along its rows, together with the column numbers: the column of a row's
    least value, the first one of several. Stated with the opposite numbers `s`: the first column of the greatest one. -/
theorem argmin_apply (d : Vec Ideal S8192x1024 .f32) (r : Fin 8192) (s : Fin 1024 → ℝ) (hd : ∀ k, d (ix2 r k) = ((-s k : ℝ) : EReal)) :
    argmin d (ix1 r) = BitVec.ofNat 32 (Spec.arg fun k => (s k : EReal)).val := by
  refine (congrFun (argmin_def d) (ix1 r)).trans ((congrArg Prod.snd (argReduce_fold _ _ _ _ _ _ _ _)).trans ?_)
  -- a row's pairs are its values with their column numbers
  have hmem : ∀ p : EReal × BitVec 32, p ∈ Host.argReduceFiber d (iotaInDim S8192x1024 32 1) reducesTo_S8192x1024_S8192_d1 (ix1 r)
      ↔ ∃ k : Fin 1024, p = (((-s k : ℝ) : EReal), BitVec.ofNat 32 k.val) := by
    intro p
    unfold Host.argReduceFiber
    rw [List.mem_map]
    constructor
    · rintro ⟨n, hn, rfl⟩
      have hdrop := of_decide_eq_true (List.mem_filter.1 hn).2
      generalize S8192x1024.rowMajor.symm n = i at hdrop
      have h0 : (i 0).val = r.val := (Shape.ReducesTo.drop_apply_val_of_eq reducesTo_S8192x1024_S8192_d1 i 0 0).symm.trans
        (congrArg Fin.val (congrFun hdrop 0))
      obtain ⟨k, rfl⟩ : ∃ k : Fin 1024, i = ix2 r k := ⟨i 1, by
        funext a
        match a with
        | ⟨0, _⟩ => exact Fin.ext h0
        | ⟨1, _⟩ => rfl⟩
      refine ⟨k, ?_⟩
      rw [hd]
      rfl
    · rintro ⟨k, rfl⟩
      refine ⟨S8192x1024.rowMajor (ix2 r k), List.mem_filter.2 ⟨List.mem_finRange _, decide_eq_true ?_⟩, ?_⟩
      · rw [Equiv.symm_apply_apply]
        funext a
        match a with
        | ⟨0, _⟩ => exact Fin.ext (Shape.ReducesTo.drop_apply_val_of_eq reducesTo_S8192x1024_S8192_d1 (ix2 r k) 0 0)
      · rw [Equiv.symm_apply_apply, hd]
        rfl
  obtain ⟨h1, h2, h3⟩ := foldl_reducer (Host.argReduceFiber d (iotaInDim S8192x1024 32 1) reducesTo_S8192x1024_S8192_d1 (ix1 r))
    (constant (F := Ideal) S_ .f32 0x7F800000#32 (Shape.Idx.first h_S_), constantI S_ 32 0#32 (Shape.Idx.first h_S_))
  generalize Host.argReduceFiber d (iotaInDim S8192x1024 32 1) reducesTo_S8192x1024_S8192_d1 (ix1 r) = l at hmem h1 h2 h3 ⊢
  have hq : ∃ k : Fin 1024, l.foldl (reducer_argmin_f32_i32 (F := Ideal))
      (constant (F := Ideal) S_ .f32 0x7F800000#32 (Shape.Idx.first h_S_), constantI S_ 32 0#32 (Shape.Idx.first h_S_))
        = (((-s k : ℝ) : EReal), BitVec.ofNat 32 k.val) := by
    rcases h1 with h1 | h1
    · exfalso
      have := h3 _ ((hmem _).2 ⟨0, rfl⟩)
      rw [h1] at this
      have ht : (constant (F := Ideal) S_ .f32 0x7F800000#32 (Shape.Idx.first h_S_) : EReal) = ⊤ := Spec.ctop
      unfold before at this
      rw [ht] at this
      rcases this with h | ⟨h, _⟩
      · exact absurd h not_top_lt
      · exact EReal.coe_ne_top _ h.symm
    · exact (hmem _).1 h1
  obtain ⟨k, hk⟩ := hq
  rw [hk] at h3 ⊢
  have hlt : ∀ k : Fin 1024, (BitVec.ofNat 32 k.val).toInt = (k.val : Int) := fun k =>
    WordCmp.toInt_ofNat_of_lt (by have := k.isLt; omega)
  have hall : ∀ k', s k' < s k ∨ (s k' = s k ∧ k ≤ k') := fun k' => by
    rcases h3 _ ((hmem _).2 ⟨k', rfl⟩) with h | ⟨h, i⟩
    · exact Or.inl (neg_lt_neg_iff.1 (EReal.coe_lt_coe_iff.1 h))
    · dsimp only at h i
      rw [hlt, hlt] at i
      refine Or.inr ⟨neg_injective (EReal.coe_injective h.symm), ?_⟩
      exact Fin.le_def.2 (by exact_mod_cast i)
  refine congrArg (fun k : Fin 1024 => BitVec.ofNat 32 k.val) (Spec.eq_arg (fun k => (s k : EReal)) k (fun k' => ?_) (fun k' h => ?_))
  · rcases hall k' with h | ⟨h, _⟩
    · exact EReal.coe_le_coe_iff.2 h.le
    · exact EReal.coe_le_coe_iff.2 h.le
  · rcases hall k' with h' | ⟨_, h'⟩
    · exact absurd (EReal.coe_injective h) h'.ne
    · exact h'

/-! ## The counts and the gathered rows -/

theorem cidx_apply (y : Vec Ideal S8192 .i32) (r : Fin 8192) :
    cidx (F := Ideal) y (ix2 r 0) = Scalar.select (IntOp.cmpi CmpIPredicate.slt (y (ix1 r)) 0#32) (IntOp.addi (y (ix1 r)) 1024#32) (y (ix1 r)) := by
  pointwise [cidx]

/-- A position that is a row's number is its own index. -/
theorem cidx_of (y : Vec Ideal S8192 .i32) (r : Fin 8192) (a : Fin 1024) (h : y (ix1 r) = BitVec.ofNat 32 a.val) :
    cidx (F := Ideal) y (ix2 r 0) = BitVec.ofNat 32 a.val := by
  rw [cidx_apply, h]
  exact Routing.wrap_of_lt _ _ (by rw [WordCmp.toNat_ofNat_of_lt (by have := a.isLt; omega)]; have := a.isLt; omega)

/-- An update of the counts lands at its index. -/
theorem lands (idx : IVec S8192x1 32) (i : Fin 8192) (k : Fin 1024) :
    scatter_S1024_S8192x1_S8192_n_0_0_1.resultIdx? (ix1 i) idx = some (ix1 k) ↔ (idx (ix2 i 0)).toInt = (k.val : Int) := by
  have hw : scatter_S1024_S8192x1_S8192_n_0_0_1.window (ix1 i) 0 = 0 := rfl
  have hs : scatter_S1024_S8192x1_S8192_n_0_0_1.start (ix1 i) idx 0 = (idx (ix2 i 0)).toInt := by
    unfold ScatterDims.start
    rw [dif_pos (by decide)]
    congr 2
    funext a
    match a with
    | ⟨0, _⟩ => rfl
    | ⟨1, _⟩ => rfl
  refine (Routing.resultIdx?_ix1 scatter_S1024_S8192x1_S8192_n_0_0_1 (ix1 i) idx k).trans ?_
  rw [hw, hs]
  simp

/-- Positive positions stay as they are. -/
theorem maxsi_zero (a : Fin 1024) : IntOp.maxsi (0#32) (BitVec.ofNat 32 a.val) = BitVec.ofNat 32 a.val := by
  have := a.isLt
  have h : (BitVec.ofNat 32 a.val).toInt = (a.val : Int) := WordCmp.toInt_ofNat_of_lt (by omega)
  unfold IntOp.maxsi
  rw [BitVec.slt_eq_decide, h]
  simp only [BitVec.toInt_zero, decide_eq_true_eq]
  split
  · next q => omega
  · first | rfl | (next q => exact BitVec.eq_of_toInt_eq (by rw [h, BitVec.toInt_zero]; omega))

/-- The counts of positions that are rows' numbers. -/
theorem count_apply (y : Vec Ideal S8192 .i32) (a : Fin 8192 → Fin 1024) (h : ∀ r, y (ix1 r) = BitVec.ofNat 32 (a r).val) (k : Fin 1024) :
    count (F := Ideal) y (ix1 k) = BitVec.ofNat 32 (Finset.univ.filter fun r => a r = k).card := by
  unfold count
  rw [Routing.scatter_at]
  have hidx : ∀ r, cidx (F := Ideal) (maxsi (broadcastInDim S8192 ![] bcast_S_S8192 (id (constantI S_ 32 0#32))) y) (ix2 r 0)
      = BitVec.ofNat 32 (a r).val := fun r => cidx_of _ r (a r) (by
    show IntOp.maxsi (0#32) (y (ix1 r)) = _
    rw [h, maxsi_zero])
  generalize cidx (F := Ideal) (maxsi (broadcastInDim S8192 ![] bcast_S_S8192 (id (constantI S_ 32 0#32))) y) = idx at hidx ⊢
  have hstep : ∀ (i : S8192.Idx), (scatter_S1024_S8192x1_S8192_n_0_0_1.resultIdx? i idx = some (ix1 k)) ↔ a (i 0) = k := fun i => by
    obtain ⟨r, rfl⟩ : ∃ r : Fin 8192, i = ix1 r := ⟨i 0, by funext b; match b with | ⟨0, _⟩ => rfl⟩
    rw [lands, hidx]
    have h1 := (a r).isLt
    show (BitVec.ofNat 32 (a r).val).toInt = _ ↔ a r = k
    rw [WordCmp.toInt_ofNat_of_lt (by omega), Fin.ext_iff]
    exact Int.ofNat_inj
  simp only [hstep]
  have hfold : ∀ (L : List (Fin S8192.numel)) (z : ℕ), L.foldl (fun acc n => if a (S8192.rowMajor.symm n 0) = k then IntOp.addi acc (1#32) else acc) (BitVec.ofNat 32 z)
      = BitVec.ofNat 32 (z + L.countP fun n => a (S8192.rowMajor.symm n 0) = k) := by
    intro L
    induction L with
    | nil => intro z; rfl
    | cons n L ih =>
      intro z
      rw [List.foldl_cons, List.countP_cons]
      by_cases hn : a (S8192.rowMajor.symm n 0) = k
      · rw [if_pos hn, show IntOp.addi (BitVec.ofNat 32 z) (1#32) = BitVec.ofNat 32 (z + 1) from WordCmp.addi_ofNat z 1, ih]
        simp only [hn, decide_true, if_true]
        congr 1; omega
      · rw [if_neg hn, ih]
        simp only [hn, decide_false, Bool.false_eq_true, if_false, Nat.add_zero]
  refine (hfold (List.finRange S8192.numel) 0).trans ?_
  rw [Nat.zero_add]
  congr 1
  -- the row-major positions are the pixels
  let φ : Fin S8192.numel ≃ Fin 8192 := S8192.rowMajor.symm.trans
    ⟨fun i => i 0, fun r => ix1 r, fun i => by funext b; match b with | ⟨0, _⟩ => rfl, fun r => rfl⟩
  have h1 : (List.finRange S8192.numel).countP (fun n => a (S8192.rowMajor.symm n 0) = k)
      = (Finset.univ.filter fun n : Fin S8192.numel => a (φ n) = k).card := by
    rw [List.countP_eq_length_filter]
    rfl
  rw [h1]
  exact Finset.card_bij (fun n _ => φ n) (fun n hn => by simpa using hn) (fun n _ n' _ q => φ.injective q)
    (fun r hr => ⟨φ.symm r, by simpa using hr, by simp⟩)

/-- The gathered row at a position that is a row's number. -/
theorem rows_apply (e : Vec Ideal S1024x256 .f32) (y : Vec Ideal S8192 .i32) (r : Fin 8192) (a : Fin 1024) (h : y (ix1 r) = BitVec.ofNat 32 a.val)
    (c : Fin 256) : rows (F := Ideal) e y (ix2 r c) = e (ix2 a c) := by
  have hc := cidx_of y r a h
  have hg : Host.gather gather_S1024x256_S8192x1_S8192x256_1_0_n_n_0_1_1256 e (cidx (F := Ideal) y) (ix2 r c) = e (ix2 a c) :=
    Routing.gather_row gather_S1024x256_S8192x1_S8192x256_1_0_n_n_0_1_1256 rfl rfl rfl rfl rfl e (cidx (F := Ideal) y) r c a hc (by norm_num)
  have hr : rows (F := Ideal) e y (ix2 r c) = Scalar.select
      (Finset.fold IntOp.andi (1#1) (fun x : Fin 1 => IntOp.andi (IntOp.cmpi CmpIPredicate.sge (cidx (F := Ideal) y (ix2 r x)) 0#32)
        (IntOp.cmpi CmpIPredicate.sle (cidx (F := Ideal) y (ix2 r x)) 1023#32)) Finset.univ)
      (Host.gather gather_S1024x256_S8192x1_S8192x256_1_0_n_n_0_1_1256 e (cidx (F := Ideal) y) (ix2 r c)) (Ideal.ofBits .f32 0x7FC00000#32) := by
    generalize hG : Host.gather gather_S1024x256_S8192x1_S8192x256_1_0_n_n_0_1_1256 e (cidx (F := Ideal) y) = G
    pointwise [rows]
    rw [hG]
  rw [hr, hg]
  refine WordCmp.select_of_eq_one ?_ _ _
  rw [Finset.univ_unique, Finset.fold_singleton]
  show IntOp.andi (IntOp.andi (IntOp.cmpi CmpIPredicate.sge (cidx (F := Ideal) y (ix2 r 0)) 0#32)
    (IntOp.cmpi CmpIPredicate.sle (cidx (F := Ideal) y (ix2 r 0)) 1023#32)) (1#1) = 1#1
  have ha := a.isLt
  rw [hc, WordCmp.cmpi_sge_eq, WordCmp.cmpi_sle_eq, WordCmp.toInt_ofNat_of_lt (a := a.val) (by omega),
    show (0#32).toInt = 0 from rfl, show (1023#32).toInt = 1023 from rfl, decide_eq_true (by omega : (0 : Int) ≤ a.val), decide_eq_true (by omega : (a.val : Int) ≤ 1023)]
  rfl

end Cert.ReferenceIdeal.Value

end
-- ==== Proof.RefSpec.lean ====
/- The reference's results at the extended reals, as the plain mathematics of its image and its codebook. -/
module

public import proofs.«01_k».proof.Proof.RefRead

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pointwise

/-! ## The reference's values, of its image `z` and codebook `e` -/

/-- The image as a function of image, pixel and channel: pixel `p` is the one in row `p / 32` and column `p % 32`. -/
def img (z : Vec Ideal S8x256x32x32 .f32) (b : Fin 8) (p : Fin 1024) (c : Fin 256) : EReal :=
  z (ix4 b c ⟨p.val / 32, by omega⟩ ⟨p.val % 32, by omega⟩)
/-- The codebook as a function of row and channel. -/
def book (e : Vec Ideal S1024x256 .f32) (k : Fin 1024) (c : Fin 256) : EReal := e (ix2 k c)
/-- The pixel in row `h` and column `w`. -/
def pixel (h w : Fin 32) : Fin 1024 := ⟨h.val * 32 + w.val, by omega⟩

/-- A sum over a product of extents, outer axis first. -/
theorem sum_split {m n N : ℕ} (hN : m * n = N) (f : Fin N → EReal) :
    ∑ r, f r = ∑ i : Fin m, ∑ j : Fin n, f ⟨i.val * n + j.val, by
      subst hN
      calc i.val * n + j.val < i.val * n + n := by omega
        _ = (i.val + 1) * n := by ring
        _ ≤ m * n := Nat.mul_le_mul_right n i.isLt⟩ := by
  subst hN
  rw [← finProdFinEquiv.sum_comp, Fintype.sum_prod_type]
  refine Finset.sum_congr rfl fun i _ => Finset.sum_congr rfl fun j _ => congrArg f (Fin.ext ?_)
  show j.val + n * i.val = i.val * n + j.val
  ring

variable (z : Vec Ideal S8x256x32x32 .f32) (e : Vec Ideal S1024x256 .f32)

/-- A pixel divided by its norm. -/
theorem pixel_apply (b : Fin 8) (h w : Fin 32) (c : Fin 256) : unitZ (zt z) (ix4 b h w c) = Spec.unit (img z b (pixel h w)) c := by
  rw [unitZ_apply]
  congr 1
  funext c
  rw [zt_apply]
  unfold img pixel
  have h1 : (⟨(h.val * 32 + w.val) / 32, by omega⟩ : Fin 32) = h := Fin.ext (by show (h.val * 32 + w.val) / 32 = h.val; omega)
  have h2 : (⟨(h.val * 32 + w.val) % 32, by omega⟩ : Fin 32) = w := Fin.ext (by show (h.val * 32 + w.val) % 32 = w.val; omega)
  rw [h1, h2]

/-- The inner product of a pixel with a row, as a real number. -/
def simR (b : Fin 8) (p k : Fin 1024) : ℝ := ∑ c, Spec.unitR (book e k) c * Spec.unitR (img z b p) c
theorem simR_eq (b : Fin 8) (p k : Fin 1024) : (simR z e b p k : EReal) = Spec.sim (img z) (book e) b p k := by
  unfold simR Spec.sim
  simp only [Spec.unit_eq, Spec.coe_sum, EReal.coe_mul]

/-- The distance is the opposite of the inner product. -/
theorem dist_apply (b : Fin 8) (p k : Fin 1024) :
    dist z e (ix2 ⟨b.val * 1024 + p.val, by omega⟩ k) = ((-simR z e b p k : ℝ) : EReal) := by
  rw [dist_apply']
  have h1 : (⟨(b.val * 1024 + p.val) / 1024, by omega⟩ : Fin 8) = b := Fin.ext (by show (b.val * 1024 + p.val) / 1024 = b.val; omega)
  have h2 : pixel ⟨(b.val * 1024 + p.val) / 32 % 32, by omega⟩ ⟨(b.val * 1024 + p.val) % 32, by omega⟩ = p := Fin.ext (by
    show (b.val * 1024 + p.val) / 32 % 32 * 32 + (b.val * 1024 + p.val) % 32 = p.val; omega)
  simp only [pixel_apply, unitE_apply, h1, h2]
  show ∑ c, -Spec.unit (img z b p) c * Spec.unit (book e k) c = _
  unfold simR
  simp only [Spec.unit_eq, ← EReal.coe_neg, ← EReal.coe_mul, ← Spec.coe_sum]
  congr 1
  rw [← Finset.sum_neg_distrib]
  exact Finset.sum_congr rfl fun c _ => by ring

/-- The position of the least distance is the chosen row. -/
theorem pos_apply (b : Fin 8) (p : Fin 1024) :
    pos z e (ix1 ⟨b.val * 1024 + p.val, by omega⟩) = BitVec.ofNat 32 (Spec.idx (img z) (book e) b p).val := by
  refine (argmin_apply (dist z e) ⟨b.val * 1024 + p.val, by omega⟩ (simR z e b p) (dist_apply z e b p)).trans ?_
  unfold Spec.idx
  simp only [simR_eq]

/-- The chosen row, by a pixel's number among all images. -/
def chosen (r : Fin 8192) : Fin 1024 := Spec.idx (img z) (book e) ⟨r.val / 1024, by omega⟩ ⟨r.val % 1024, by omega⟩
theorem pos_chosen (r : Fin 8192) : pos z e (ix1 r) = BitVec.ofNat 32 (chosen z e r).val := by
  have h := pos_apply z e ⟨r.val / 1024, by omega⟩ ⟨r.val % 1024, by omega⟩
  have hr : (⟨r.val / 1024 * 1024 + r.val % 1024, by omega⟩ : Fin 8192) = r := Fin.ext (by show r.val / 1024 * 1024 + r.val % 1024 = r.val; omega)
  rw [hr] at h
  exact h
theorem chosen_eq (b : Fin 8) (p : Fin 1024) : chosen z e ⟨b.val * 1024 + p.val, by omega⟩ = Spec.idx (img z) (book e) b p := by
  unfold chosen
  have h1 : (⟨(b.val * 1024 + p.val) / 1024, by omega⟩ : Fin 8) = b := Fin.ext (by show (b.val * 1024 + p.val) / 1024 = b.val; omega)
  have h2 : (⟨(b.val * 1024 + p.val) % 1024, by omega⟩ : Fin 1024) = p := Fin.ext (by show (b.val * 1024 + p.val) % 1024 = p.val; omega)
  simp only [h1, h2]

/-- The chosen rows, divided by their norms. -/
theorem sel_apply (b : Fin 8) (h w : Fin 32) (c : Fin 256) :
    sel z e (ix4 b h w c) = Spec.quant (img z) (book e) b (pixel h w) c := by
  unfold sel Spec.quant
  rw [unitZ_apply]
  congr 1
  funext c
  rw [reshape_apply, rows_apply e (pos z e) _ _ (pos_chosen z e _)]
  have hr : (⟨b.val * 1024 + h.val * 32 + w.val, by omega⟩ : Fin 8192) = ⟨b.val * 1024 + (pixel h w).val, by omega⟩ :=
    Fin.ext (by show b.val * 1024 + h.val * 32 + w.val = b.val * 1024 + (h.val * 32 + w.val); omega)
  rw [hr, chosen_eq]
  rfl

/-- The mean of squared differences. -/
theorem msq_sel : msq (subf (sel z e) (unitZ (zt z))) ix0 = Ideal.div (Spec.sq (img z) (book e)) (Ideal.ofBits .f32 0x46000000#32) := by
  rw [msq_apply]
  congr 1
  unfold Spec.sq
  refine Finset.sum_congr rfl fun b _ => ?_
  rw [sum_split (show 32 * 32 = 1024 by norm_num)]
  refine Finset.sum_congr rfl fun h _ => Finset.sum_congr rfl fun w _ => Finset.sum_congr rfl fun c _ => ?_
  have hd : subf (sel z e) (unitZ (zt z)) (ix4 b h w c) = sel z e (ix4 b h w c) - unitZ (zt z) (ix4 b h w c) := rfl
  rw [hd, sel_apply, pixel_apply]
  rfl

/-- The counts. -/
theorem count_chosen (k : Fin 1024) :
    FloatOps.sitofp (F := Ideal) .f32 (count (F := Ideal) (pos z e) (ix1 k)) = Spec.cnt (img z) (book e) k := by
  rw [count_apply (pos z e) (chosen z e) (pos_chosen z e)]
  have hle : (Finset.univ.filter fun r => chosen z e r = k).card ≤ 8192 := (Finset.card_le_univ _).trans (by simp)
  have h1 : FloatOps.sitofp (F := Ideal) .f32 (BitVec.ofNat 32 (Finset.univ.filter fun r => chosen z e r = k).card)
      = (((BitVec.ofNat 32 (Finset.univ.filter fun r => chosen z e r = k).card).toInt : ℝ) : EReal) := rfl
  rw [h1, WordCmp.toInt_ofNat_of_lt (by omega), Finset.card_filter]
  have h2 : Spec.cnt (img z) (book e) k = ∑ r, if chosen z e r = k then (1 : EReal) else 0 := by
    rw [sum_split (show 8 * 1024 = 8192 by norm_num)]
    simp only [chosen_eq]
    rfl
  rw [h2]
  push_cast
  rw [Spec.coe_sum]
  exact Finset.sum_congr rfl fun r _ => by split <;> simp

/-! ## The four results -/

theorem out0_apply (b : Fin 8) (c : Fin 256) (h w : Fin 32) :
    out0 z e (ix4 b c h w) = Spec.quant (img z) (book e) b (pixel h w) c := by
  rw [out0_apply', sel_apply, pixel_apply, Spec.add_sub]
theorem out1_apply : out1 z e ix0 = Spec.lossR (img z) (book e) := by
  rw [out1_apply', msq_sel, Spec.quarter_add]
theorem out2_apply : out2 z e ix0 = Spec.ent (img z) (book e) := by
  unfold out2 Spec.ent Spec.prob
  rw [entr_apply]
  simp only [prob_apply, offs_apply, count_chosen]
theorem out3_apply (b : Fin 8) (p : Fin 1024) : out3 z e (ix2 b p) = BitVec.ofNat 32 (Spec.idx (img z) (book e) b p).val :=
  (positions_apply (pos z e) b p).trans (pos_apply z e b p)

end Cert.ReferenceIdeal.Value

end
-- ==== Proof.Equal.lean ====
/- The kernel's four results are the reference's, at the extended reals: each side read at an index is the same plain
   mathematics of the image and the codebook. -/
module

public import proofs.«01_k».proof.Proof.KernelRead
public import proofs.«01_k».proof.Proof.RefSpec

@[expose] public section

set_option maxRecDepth 16384

noncomputable section

namespace Cert.Equal

open Idealize.ShloMosaic Idealize.ShloMosaic.TcCoe Idealize.SL.Sem
open Idealize.ShloMosaic.Pointwise Cert.KernelIdeal Cert.KernelIdeal.Gen Cert.KernelIdeal.Value

variable (z : Vec Ideal S8x256x32x32 .f32) (e : Vec Ideal S1024x256 .f32)

/-- The image with its pixels in one axis, as the kernel takes it. -/
def flat : Vec Ideal S8x256x1024 .f32 := shapeCast S8x256x1024 z shapeCasts_S8x256x32x32_S8x256x1024

/-- The kernel's pixels are the reference's. -/
theorem img_flat : img (flat z) = Cert.ReferenceIdeal.Value.img z := by
  funext b p c
  unfold img Cert.ReferenceIdeal.Value.img
  pointwise [flat]

/-! ## How the kernel's arrays are reshaped into its results -/

theorem quant_shape (x : Vec Ideal S8x256x1024 .f32) (b : Fin 8) (c : Fin 256) (h w : Fin 32) :
    shapeCast S8x256x32x32 x shapeCasts_S8x256x1024_S8x256x32x32 (ix4 b c h w) = x (ix3 b c (Cert.ReferenceIdeal.Value.pixel h w)) := by
  unfold Cert.ReferenceIdeal.Value.pixel
  pointwise
theorem scalar_shape (x : Vec Ideal S1x1 .f32) : shapeCast S_ x shapeCasts_S1x1_S_ ix0 = x (ix2 0 0) := by
  pointwise
theorem index_shape (x : Vec Ideal S8x1x1024 .i32) (b : Fin 8) (p : Fin 1024) :
    shapeCast S8x1024 x shapeCasts_S8x1x1024_S8x1024 (ix2 b p) = x (ix3 b 0 p) := by
  pointwise

/-! ## The four results -/

/-- The quantised image. -/
theorem result0 : shapeCast S8x256x32x32 (arr2 (flat z) e) shapeCasts_S8x256x1024_S8x256x32x32 = Cert.ReferenceIdeal.Value.out0 z e := by
  funext i
  obtain ⟨b, c, h, w, rfl⟩ : ∃ b c h w, i = ix4 b c h w := ⟨i 0, i 1, i 2, i 3, by
    funext a
    match a with
    | ⟨0, _⟩ => rfl
    | ⟨1, _⟩ => rfl
    | ⟨2, _⟩ => rfl
    | ⟨3, _⟩ => rfl⟩
  refine (quant_shape _ b c h w).trans ((arr2_apply (flat z) e b c _).trans ?_)
  rw [img_flat]
  exact (Cert.ReferenceIdeal.Value.out0_apply z e b c h w).symm

/-- The loss. -/
theorem result1 : shapeCast S_ (arr4 (flat z) e) shapeCasts_S1x1_S_ = Cert.ReferenceIdeal.Value.out1 z e := by
  funext i
  obtain rfl : i = ix0 := funext fun a => a.elim0
  refine (scalar_shape _).trans ((arr4_apply (flat z) e).trans ?_)
  rw [img_flat]
  exact (Cert.ReferenceIdeal.Value.out1_apply z e).symm

/-- The entropy. -/
theorem result2 : shapeCast S_ (arr5 (flat z) e) shapeCasts_S1x1_S_ = Cert.ReferenceIdeal.Value.out2 z e := by
  funext i
  obtain rfl : i = ix0 := funext fun a => a.elim0
  refine (scalar_shape _).trans ((arr5_apply (flat z) e).trans ?_)
  rw [img_flat]
  exact (Cert.ReferenceIdeal.Value.out2_apply z e).symm

/-- The chosen rows' numbers. -/
theorem result3 : shapeCast S8x1024 (arr3 (flat z) e) shapeCasts_S8x1x1024_S8x1024 = Cert.ReferenceIdeal.Value.out3 z e := by
  funext i
  obtain ⟨b, p, rfl⟩ : ∃ b p, i = ix2 b p := ⟨i 0, i 1, by
    funext a
    match a with
    | ⟨0, _⟩ => rfl
    | ⟨1, _⟩ => rfl⟩
  refine (index_shape _ b p).trans ((arr3_apply (flat z) e b p).trans ?_)
  rw [img_flat]
  exact (Cert.ReferenceIdeal.Value.out3_apply z e b p).symm

end Cert.Equal

end
-- ==== Proof.RefOps.lean ====
/- The operations of the reference program as lists, a called function's operations standing in its call's place. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 32 of 123 (window `main_part0`). -/
abbrev ops_part0_0 : List (HloOp τ sig (Elt F)) :=
  [ unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    TRef.binary (TRef.of (T := ⟨S8x32x32x256, .f32⟩) main_v0) (TRef.of (T := ⟨S8x32x32x256, .f32⟩) main_v0) (TRef.of (T := ⟨S8x32x32x256, .f32⟩) main_call0_v0) mulf,
    TRef.nullary (TRef.of (T := ⟨S_, .f32⟩) main_call0_cst) (constant S_ .f32 0x00000000#32),
    TRef.binary (TRef.of (T := ⟨S8x32x32x256, .f32⟩) main_call0_v0) (TRef.of (T := ⟨S_, .f32⟩) main_call0_cst) (TRef.of (T := ⟨S8x32x32, .f32⟩) main_call0_v1) (fun x v => Host.reduceAdd x v reducesTo_S8x32x32x256_S8x32x32_d3 h_S_),
    TRef.unary (TRef.of (T := ⟨S8x32x32, .f32⟩) main_call0_v1) (TRef.of (T := ⟨S8x32x32x1, .f32⟩) main_call0_v2) (broadcastInDim S8x32x32x1 ![0, 1, 2] bcast_S8x32x32_S8x32x32x1_0_1_2),
    TRef.unary (TRef.of (T := ⟨S8x32x32x1, .f32⟩) main_call0_v2) (TRef.of (T := ⟨S8x32x32x1, .f32⟩) main_v1) Host.sqrt,
    nullary main_cst (constant S_ .f32 0x2B8CBCCC#32),
    unary main_cst main_v2 (broadcastInDim S8x32x32x1 ![] bcast_S_S8x32x32x1 : (⟨S_, .f32⟩ : BufTy).Contents (Elt F) → (⟨S8x32x32x1, .f32⟩ : BufTy).Contents (Elt F)),
    binary main_v1 main_v2 main_v3 (maximumf : (⟨S8x32x32x1, .f32⟩ : BufTy).Contents (Elt F) → (⟨S8x32x32x1, .f32⟩ : BufTy).Contents (Elt F) → (⟨S8x32x32x1, .f32⟩ : BufTy).Contents (Elt F)),
    unary main_v3 main_v4 (broadcastInDim S8x32x32x256 ![0, 1, 2, 3] bcast_S8x32x32x1_S8x32x32x256_0_1_2_3 : (⟨S8x32x32x1, .f32⟩ : BufTy).Contents (Elt F) → (⟨S8x32x32x256, .f32⟩ : BufTy).Contents (Elt F)),
    binary main_v0 main_v4 main_v5 (Host.divf : (⟨S8x32x32x256, .f32⟩ : BufTy).Contents (Elt F) → (⟨S8x32x32x256, .f32⟩ : BufTy).Contents (Elt F) → (⟨S8x32x32x256, .f32⟩ : BufTy).Contents (Elt F)),
    reshape main_v5 main_v6 (rfl : (.f32 : EltTy) = .f32) shapeCasts_S8x32x32x256_S8192x256,
    TRef.binary (TRef.of (T := ⟨S1024x256, .f32⟩) main_arg1) (TRef.of (T := ⟨S1024x256, .f32⟩) main_arg1) (TRef.of (T := ⟨S1024x256, .f32⟩) main_call1_v0) mulf,
    TRef.nullary (TRef.of (T := ⟨S_, .f32⟩) main_call1_cst) (constant S_ .f32 0x00000000#32),
    TRef.binary (TRef.of (T := ⟨S1024x256, .f32⟩) main_call1_v0) (TRef.of (T := ⟨S_, .f32⟩) main_call1_cst) (TRef.of (T := ⟨S1024, .f32⟩) main_call1_v1) (fun x v => Host.reduceAdd x v reducesTo_S1024x256_S1024_d1 h_S_),
    TRef.unary (TRef.of (T := ⟨S1024, .f32⟩) main_call1_v1) (TRef.of (T := ⟨S1024x1, .f32⟩) main_call1_v2) (broadcastInDim S1024x1 ![0] bcast_S1024_S1024x1_0),
    TRef.unary (TRef.of (T := ⟨S1024x1, .f32⟩) main_call1_v2) (TRef.of (T := ⟨S1024x1, .f32⟩) main_v7) Host.sqrt,
    nullary main_cst_0 (constant S_ .f32 0x2B8CBCCC#32),
    unary main_cst_0 main_v8 (broadcastInDim S1024x1 ![] bcast_S_S1024x1 : (⟨S_, .f32⟩ : BufTy).Contents (Elt F) → (⟨S1024x1, .f32⟩ : BufTy).Contents (Elt F)),
    binary main_v7 main_v8 main_v9 (maximumf : (⟨S1024x1, .f32⟩ : BufTy).Contents (Elt F) → (⟨S1024x1, .f32⟩ : BufTy).Contents (Elt F) → (⟨S1024x1, .f32⟩ : BufTy).Contents (Elt F)),
    unary main_v9 main_v10 (broadcastInDim S1024x256 ![0, 1] bcast_S1024x1_S1024x256_0_1 : (⟨S1024x1, .f32⟩ : BufTy).Contents (Elt F) → (⟨S1024x256, .f32⟩ : BufTy).Contents (Elt F)),
    binary main_arg1 main_v10 main_v11 (Host.divf : (⟨S1024x256, .f32⟩ : BufTy).Contents (Elt F) → (⟨S1024x256, .f32⟩ : BufTy).Contents (Elt F) → (⟨S1024x256, .f32⟩ : BufTy).Contents (Elt F)),
    unary main_v6 main_v12 (Host.negf : (⟨S8192x256, .f32⟩ : BufTy).Contents (Elt F) → (⟨S8192x256, .f32⟩ : BufTy).Contents (Elt F)),
    unary main_v11 main_v13 ((transpose S256x1024 [1, 0] · transposes_S1024x256_S256x1024_1_0) : (⟨S1024x256, .f32⟩ : BufTy).Contents (Elt F) → (⟨S256x1024, .f32⟩ : BufTy).Contents (Elt F)),
    binary main_v12 main_v13 main_v14 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    TRef.nullary (TRef.of (T := ⟨S8192x1024, .i32⟩) main_call2_v0) (iotaInDim S8192x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S8192x1024, .f32⟩) main_v14) (TRef.of (T := ⟨S8192x1024, .i32⟩) main_call2_v0) (TRef.of (T := ⟨S_, .f32⟩) main_call2_cst) (TRef.of (T := ⟨S_, .i32⟩) main_call2_c) (TRef.of (T := ⟨S8192, .f32⟩) main_call2_v1_0) (fun x y u v j => (Host.argReduce reducer_argmin_f32_i32 x y u v reducesTo_S8192x1024_S8192_d1 h_S_ j).1),
    TRef.quaternary (TRef.of (T := ⟨S8192x1024, .f32⟩) main_v14) (TRef.of (T := ⟨S8192x1024, .i32⟩) main_call2_v0) (TRef.of (T := ⟨S_, .f32⟩) main_call2_cst) (TRef.of (T := ⟨S_, .i32⟩) main_call2_c) (TRef.of (T := ⟨S8192, .i32⟩) main_v15) (fun x y u v j => (Host.argReduce reducer_argmin_f32_i32 x y u v reducesTo_S8192x1024_S8192_d1 h_S_ j).2),
    nullary main_c (constantI S_ 32 0#32),
    unary main_c main_v16 (broadcastInDim S1024 ![] bcast_S_S1024 : (⟨S_, .i32⟩ : BufTy).Contents (Elt F) → (⟨S1024, .i32⟩ : BufTy).Contents (Elt F)) ]

/-- @main's operations 33 … 62 of 123 (window `main_part0`). -/
abbrev ops_part0_1 : List (HloOp τ sig (Elt F)) :=
  [ nullary main_c_1 (constantI S_ 32 0#32),
    TRef.unary (TRef.of (T := ⟨S_, .i32⟩) main_c_1) (TRef.of (T := ⟨S_, .i32⟩) main_call3_v0) id,
    TRef.unary (TRef.of (T := ⟨S_, .i32⟩) main_call3_v0) (TRef.of (T := ⟨S8192, .i32⟩) main_call3_v1) (broadcastInDim S8192 ![] bcast_S_S8192),
    TRef.binary (TRef.of (T := ⟨S8192, .i32⟩) main_call3_v1) (TRef.of (T := ⟨S8192, .i32⟩) main_v15) (TRef.of (T := ⟨S8192, .i32⟩) main_v17) maxsi,
    nullary main_c_2 (constantI S_ 32 0#32),
    unary main_c_2 main_v18 (broadcastInDim S8192 ![] bcast_S_S8192 : (⟨S_, .i32⟩ : BufTy).Contents (Elt F) → (⟨S8192, .i32⟩ : BufTy).Contents (Elt F)),
    binary main_v17 main_v18 main_v19 (cmpi .slt : (⟨S8192, .i32⟩ : BufTy).Contents (Elt F) → (⟨S8192, .i32⟩ : BufTy).Contents (Elt F) → (⟨S8192, .i1⟩ : BufTy).Contents (Elt F)),
    nullary main_c_3 (constantI S_ 32 1024#32),
    unary main_c_3 main_v20 (broadcastInDim S8192 ![] bcast_S_S8192 : (⟨S_, .i32⟩ : BufTy).Contents (Elt F) → (⟨S8192, .i32⟩ : BufTy).Contents (Elt F)),
    binary main_v17 main_v20 main_v21 (addi : (⟨S8192, .i32⟩ : BufTy).Contents (Elt F) → (⟨S8192, .i32⟩ : BufTy).Contents (Elt F) → (⟨S8192, .i32⟩ : BufTy).Contents (Elt F)),
    ternary main_v19 main_v21 main_v17 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v22 main_v23 (broadcastInDim S8192x1 ![0] bcast_S8192_S8192x1_0 : (⟨S8192, .i32⟩ : BufTy).Contents (Elt F) → (⟨S8192x1, .i32⟩ : BufTy).Contents (Elt F)),
    nullary main_c_4 (constantI S_ 32 1#32),
    unary main_c_4 main_v24 (broadcastInDim S8192 ![] bcast_S_S8192 : (⟨S_, .i32⟩ : BufTy).Contents (Elt F) → (⟨S8192, .i32⟩ : BufTy).Contents (Elt F)),
    ternary main_v16 main_v23 main_v24 main_v25 ((fun x i u => Host.scatter scatter_S1024_S8192x1_S8192_n_0_0_1 IntOp.addi x i u) : (⟨S1024, .i32⟩ : BufTy).Contents (Elt F) → (⟨S8192x1, .i32⟩ : BufTy).Contents (Elt F) → (⟨S8192, .i32⟩ : BufTy).Contents (Elt F) → (⟨S1024, .i32⟩ : BufTy).Contents (Elt F)),
    unary main_v25 main_v26 (sitofp .f32 : (⟨S1024, .i32⟩ : BufTy).Contents (Elt F) → (⟨S1024, .f32⟩ : BufTy).Contents (Elt F)),
    nullary main_cst_5 (constant S_ .f32 0x38D1B717#32),
    unary main_cst_5 main_v27 (broadcastInDim S1024 ![] bcast_S_S1024 : (⟨S_, .f32⟩ : BufTy).Contents (Elt F) → (⟨S1024, .f32⟩ : BufTy).Contents (Elt F)),
    binary main_v26 main_v27 main_v28 (addf : (⟨S1024, .f32⟩ : BufTy).Contents (Elt F) → (⟨S1024, .f32⟩ : BufTy).Contents (Elt F) → (⟨S1024, .f32⟩ : BufTy).Contents (Elt F)),
    unary main_v25 main_v29 (sitofp .f32 : (⟨S1024, .i32⟩ : BufTy).Contents (Elt F) → (⟨S1024, .f32⟩ : BufTy).Contents (Elt F)),
    nullary main_cst_6 (constant S_ .f32 0x38D1B717#32),
    unary main_cst_6 main_v30 (broadcastInDim S1024 ![] bcast_S_S1024 : (⟨S_, .f32⟩ : BufTy).Contents (Elt F) → (⟨S1024, .f32⟩ : BufTy).Contents (Elt F)),
    binary main_v29 main_v30 main_v31 (addf : (⟨S1024, .f32⟩ : BufTy).Contents (Elt F) → (⟨S1024, .f32⟩ : BufTy).Contents (Elt F) → (⟨S1024, .f32⟩ : BufTy).Contents (Elt F)),
    unary main_v31 main_v32 (id : (⟨S1024, .f32⟩ : BufTy).Contents (Elt F) → (⟨S1024, .f32⟩ : BufTy).Contents (Elt F)),
    nullary main_cst_7 (constant S_ .f32 0x00000000#32),
    binary main_v32 main_cst_7 main_v33 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v28 main_v34 (id : (⟨S1024, .f32⟩ : BufTy).Contents (Elt F) → (⟨S1024, .f32⟩ : BufTy).Contents (Elt F)),
    unary main_v33 main_v35 (broadcastInDim S1024 ![] bcast_S_S1024 : (⟨S_, .f32⟩ : BufTy).Contents (Elt F) → (⟨S1024, .f32⟩ : BufTy).Contents (Elt F)),
    binary main_v34 main_v35 main_v36 (Host.divf : (⟨S1024, .f32⟩ : BufTy).Contents (Elt F) → (⟨S1024, .f32⟩ : BufTy).Contents (Elt F) → (⟨S1024, .f32⟩ : BufTy).Contents (Elt F)),
    unary main_v36 main_v37 (Host.log : (⟨S1024, .f32⟩ : BufTy).Contents (Elt F) → (⟨S1024, .f32⟩ : BufTy).Contents (Elt F)) ]

/-- @main's operations 63 … 92 of 123 (window `main_part0`). -/
abbrev ops_part0_2 : List (HloOp τ sig (Elt F)) :=
  [ binary main_v36 main_v37 main_v38 (mulf : (⟨S1024, .f32⟩ : BufTy).Contents (Elt F) → (⟨S1024, .f32⟩ : BufTy).Contents (Elt F) → (⟨S1024, .f32⟩ : BufTy).Contents (Elt F)),
    nullary main_cst_8 (constant S_ .f32 0x00000000#32),
    binary main_v38 main_cst_8 main_v39 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S8192, .i32⟩) main_call4_v0) (broadcastInDim S8192 ![] bcast_S_S8192),
    TRef.binary (TRef.of (T := ⟨S8192, .i32⟩) main_v15) (TRef.of (T := ⟨S8192, .i32⟩) main_call4_v0) (TRef.of (T := ⟨S8192, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S8192, .i32⟩) main_call4_v2) (broadcastInDim S8192 ![] bcast_S_S8192),
    TRef.binary (TRef.of (T := ⟨S8192, .i32⟩) main_v15) (TRef.of (T := ⟨S8192, .i32⟩) main_call4_v2) (TRef.of (T := ⟨S8192, .i32⟩) main_call4_v3) addi,
    TRef.ternary (TRef.of (T := ⟨S8192, .i1⟩) main_call4_v1) (TRef.of (T := ⟨S8192, .i32⟩) main_call4_v3) (TRef.of (T := ⟨S8192, .i32⟩) main_v15) (TRef.of (T := ⟨S8192, .i32⟩) main_call4_v4) select,
    TRef.unary (TRef.of (T := ⟨S8192, .i32⟩) main_call4_v4) (TRef.of (T := ⟨S8192x1, .i32⟩) main_call4_v5) (broadcastInDim S8192x1 ![0] bcast_S8192_S8192x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S8192x1, .i32⟩) main_call4_v6) (broadcastInDim S8192x1 ![] bcast_S_S8192x1),
    TRef.binary (TRef.of (T := ⟨S8192x1, .i32⟩) main_call4_v5) (TRef.of (T := ⟨S8192x1, .i32⟩) main_call4_v6) (TRef.of (T := ⟨S8192x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S8192x1, .i32⟩) main_call4_v9) (broadcastInDim S8192x1 ![0, 1] bcast_S1x1_S8192x1_0_1),
    TRef.binary (TRef.of (T := ⟨S8192x1, .i32⟩) main_call4_v5) (TRef.of (T := ⟨S8192x1, .i32⟩) main_call4_v9) (TRef.of (T := ⟨S8192x1, .i1⟩) main_call4_v10) (cmpi .sle),
    TRef.binary (TRef.of (T := ⟨S8192x1, .i1⟩) main_call4_v7) (TRef.of (T := ⟨S8192x1, .i1⟩) main_call4_v10) (TRef.of (T := ⟨S8192x1, .i1⟩) main_call4_v11) andi,
    TRef.nullary (TRef.of (T := ⟨S_, .i1⟩) main_call4_c_3) (constantI S_ 1 1#1),
    TRef.binary (TRef.of (T := ⟨S8192x1, .i1⟩) main_call4_v11) (TRef.of (T := ⟨S_, .i1⟩) main_call4_c_3) (TRef.of (T := ⟨S8192, .i1⟩) main_call4_v12) (fun x v => Host.reduce IntOp.andi x v reducesTo_S8192x1_S8192_d1 h_S_),
    TRef.binary (TRef.of (T := ⟨S1024x256, .f32⟩) main_arg1) (TRef.of (T := ⟨S8192x1, .i32⟩) main_call4_v5) (TRef.of (T := ⟨S8192x256, .f32⟩) main_call4_v13) (fun x i => Host.gather gather_S1024x256_S8192x1_S8192x256_1_0_n_n_0_1_1256 x i),
    TRef.unary (TRef.of (T := ⟨S8192, .i1⟩) main_call4_v12) (TRef.of (T := ⟨S8192x256, .i1⟩) main_call4_v14) (broadcastInDim S8192x256 ![0] bcast_S8192_S8192x256_0),
    TRef.nullary (TRef.of (T := ⟨S_, .f32⟩) main_call4_cst) (constant S_ .f32 0x7FC00000#32),
    TRef.unary (TRef.of (T := ⟨S_, .f32⟩) main_call4_cst) (TRef.of (T := ⟨S8192x256, .f32⟩) main_call4_v15) (broadcastInDim S8192x256 ![] bcast_S_S8192x256),
    TRef.ternary (TRef.of (T := ⟨S8192x256, .i1⟩) main_call4_v14) (TRef.of (T := ⟨S8192x256, .f32⟩) main_call4_v13) (TRef.of (T := ⟨S8192x256, .f32⟩) main_call4_v15) (TRef.of (T := ⟨S8192x256, .f32⟩) main_v41) select,
    reshape main_v41 main_v42 (rfl : (.f32 : EltTy) = .f32) shapeCasts_S8192x256_S8x32x32x256,
    TRef.binary (TRef.of (T := ⟨S8x32x32x256, .f32⟩) main_v42) (TRef.of (T := ⟨S8x32x32x256, .f32⟩) main_v42) (TRef.of (T := ⟨S8x32x32x256, .f32⟩) main_call5_v0) mulf,
    TRef.nullary (TRef.of (T := ⟨S_, .f32⟩) main_call5_cst) (constant S_ .f32 0x00000000#32) ]

/-- @main's operations 93 … 100 of 123 (window `main_part0`). -/
abbrev ops_part0_3 : List (HloOp τ sig (Elt F)) :=
  [ TRef.binary (TRef.of (T := ⟨S8x32x32x256, .f32⟩) main_call5_v0) (TRef.of (T := ⟨S_, .f32⟩) main_call5_cst) (TRef.of (T := ⟨S8x32x32, .f32⟩) main_call5_v1) (fun x v => Host.reduceAdd x v reducesTo_S8x32x32x256_S8x32x32_d3 h_S_),
    TRef.unary (TRef.of (T := ⟨S8x32x32, .f32⟩) main_call5_v1) (TRef.of (T := ⟨S8x32x32x1, .f32⟩) main_call5_v2) (broadcastInDim S8x32x32x1 ![0, 1, 2] bcast_S8x32x32_S8x32x32x1_0_1_2),
    TRef.unary (TRef.of (T := ⟨S8x32x32x1, .f32⟩) main_call5_v2) (TRef.of (T := ⟨S8x32x32x1, .f32⟩) main_v43) Host.sqrt,
    nullary main_cst_9 (constant S_ .f32 0x2B8CBCCC#32),
    unary main_cst_9 main_v44 (broadcastInDim S8x32x32x1 ![] bcast_S_S8x32x32x1 : (⟨S_, .f32⟩ : BufTy).Contents (Elt F) → (⟨S8x32x32x1, .f32⟩ : BufTy).Contents (Elt F)),
    binary main_v43 main_v44 main_v45 (maximumf : (⟨S8x32x32x1, .f32⟩ : BufTy).Contents (Elt F) → (⟨S8x32x32x1, .f32⟩ : BufTy).Contents (Elt F) → (⟨S8x32x32x1, .f32⟩ : BufTy).Contents (Elt F)),
    unary main_v45 main_v46 (broadcastInDim S8x32x32x256 ![0, 1, 2, 3] bcast_S8x32x32x1_S8x32x32x256_0_1_2_3 : (⟨S8x32x32x1, .f32⟩ : BufTy).Contents (Elt F) → (⟨S8x32x32x256, .f32⟩ : BufTy).Contents (Elt F)),
    binary main_v42 main_v46 main_v47 (Host.divf : (⟨S8x32x32x256, .f32⟩ : BufTy).Contents (Elt F) → (⟨S8x32x32x256, .f32⟩ : BufTy).Contents (Elt F) → (⟨S8x32x32x256, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 101 … 123 of 123 (window `main_part1`). -/
abbrev ops_part1 : List (HloOp τ sig (Elt F)) :=
  [ binary main_v47 main_v5 main_v48 (subf : (⟨S8x32x32x256, .f32⟩ : BufTy).Contents (Elt F) → (⟨S8x32x32x256, .f32⟩ : BufTy).Contents (Elt F) → (⟨S8x32x32x256, .f32⟩ : BufTy).Contents (Elt F)),
    binary main_v48 main_v48 main_v49 (mulf : (⟨S8x32x32x256, .f32⟩ : BufTy).Contents (Elt F) → (⟨S8x32x32x256, .f32⟩ : BufTy).Contents (Elt F) → (⟨S8x32x32x256, .f32⟩ : BufTy).Contents (Elt F)),
    nullary main_cst_10 (constant S_ .f32 0x00000000#32),
    binary main_v49 main_cst_10 main_v50 ((fun x v => Host.reduceAdd x v reducesTo_S8x32x32x256_S8x32x32_d3 h_S_) : (⟨S8x32x32x256, .f32⟩ : BufTy).Contents (Elt F) → (⟨S_, .f32⟩ : BufTy).Contents (Elt F) → (⟨S8x32x32, .f32⟩ : BufTy).Contents (Elt F)),
    nullary main_cst_11 (constant S_ .f32 0x00000000#32),
    binary main_v50 main_cst_11 main_v51 ((fun x v => Host.reduceAdd x v reducesTo_S8x32x32_S_d0_1_2 h_S_) : (⟨S8x32x32, .f32⟩ : BufTy).Contents (Elt F) → (⟨S_, .f32⟩ : BufTy).Contents (Elt F) → (⟨S_, .f32⟩ : BufTy).Contents (Elt F)),
    nullary main_cst_12 (constant S_ .f32 0x46000000#32),
    binary main_v51 main_cst_12 main_v52 (Host.divf : (⟨S_, .f32⟩ : BufTy).Contents (Elt F) → (⟨S_, .f32⟩ : BufTy).Contents (Elt F) → (⟨S_, .f32⟩ : BufTy).Contents (Elt F)),
    nullary main_cst_13 (constant S_ .f32 0x3E800000#32),
    binary main_cst_13 main_v52 main_v53 (mulf : (⟨S_, .f32⟩ : BufTy).Contents (Elt F) → (⟨S_, .f32⟩ : BufTy).Contents (Elt F) → (⟨S_, .f32⟩ : BufTy).Contents (Elt F)),
    binary main_v47 main_v5 main_v54 (subf : (⟨S8x32x32x256, .f32⟩ : BufTy).Contents (Elt F) → (⟨S8x32x32x256, .f32⟩ : BufTy).Contents (Elt F) → (⟨S8x32x32x256, .f32⟩ : BufTy).Contents (Elt F)),
    binary main_v54 main_v54 main_v55 (mulf : (⟨S8x32x32x256, .f32⟩ : BufTy).Contents (Elt F) → (⟨S8x32x32x256, .f32⟩ : BufTy).Contents (Elt F) → (⟨S8x32x32x256, .f32⟩ : BufTy).Contents (Elt F)),
    nullary main_cst_14 (constant S_ .f32 0x00000000#32),
    binary main_v55 main_cst_14 main_v56 ((fun x v => Host.reduceAdd x v reducesTo_S8x32x32x256_S8x32x32_d3 h_S_) : (⟨S8x32x32x256, .f32⟩ : BufTy).Contents (Elt F) → (⟨S_, .f32⟩ : BufTy).Contents (Elt F) → (⟨S8x32x32, .f32⟩ : BufTy).Contents (Elt F)),
    nullary main_cst_15 (constant S_ .f32 0x00000000#32),
    binary main_v56 main_cst_15 main_v57 ((fun x v => Host.reduceAdd x v reducesTo_S8x32x32_S_d0_1_2 h_S_) : (⟨S8x32x32, .f32⟩ : BufTy).Contents (Elt F) → (⟨S_, .f32⟩ : BufTy).Contents (Elt F) → (⟨S_, .f32⟩ : BufTy).Contents (Elt F)),
    nullary main_cst_16 (constant S_ .f32 0x46000000#32),
    binary main_v57 main_cst_16 main_v58 (Host.divf : (⟨S_, .f32⟩ : BufTy).Contents (Elt F) → (⟨S_, .f32⟩ : BufTy).Contents (Elt F) → (⟨S_, .f32⟩ : BufTy).Contents (Elt F)),
    binary main_v53 main_v58 main_v59 (addf : (⟨S_, .f32⟩ : BufTy).Contents (Elt F) → (⟨S_, .f32⟩ : BufTy).Contents (Elt F) → (⟨S_, .f32⟩ : BufTy).Contents (Elt F)),
    binary main_v47 main_v5 main_v60 (subf : (⟨S8x32x32x256, .f32⟩ : BufTy).Contents (Elt F) → (⟨S8x32x32x256, .f32⟩ : BufTy).Contents (Elt F) → (⟨S8x32x32x256, .f32⟩ : BufTy).Contents (Elt F)),
    binary main_v5 main_v60 main_v61 (addf : (⟨S8x32x32x256, .f32⟩ : BufTy).Contents (Elt F) → (⟨S8x32x32x256, .f32⟩ : BufTy).Contents (Elt F) → (⟨S8x32x32x256, .f32⟩ : BufTy).Contents (Elt F)),
    unary main_v61 main_v62 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    reshape main_v15 main_v63 (rfl : (.i32 : EltTy) = .i32) shapeCasts_S8192_S8x1024 ]

/-- @main's 123 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., unary_bufs_sub .., nullary_bufs_sub .., unary_bufs_sub .., binary_bufs_sub .., unary_bufs_sub .., nullary_bufs_sub .., binary_bufs_sub .., unary_bufs_sub .., unary_bufs_sub .., binary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., unary_bufs_sub .., unary_bufs_sub .., nullary_bufs_sub .., unary_bufs_sub .., binary_bufs_sub .., unary_bufs_sub .., binary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., reshape_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h]

end Cert.ReferenceIdeal.Value

end
-- ==== Proof.RefVals.lean ====
/- What the reference program's buffers hold after each window of its operations, as composed terms of the arguments.
   Intermediate values used several times are named `res_<buffer>`. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 3 times). -/
def res_main_v0 (V0 : Valuation τ sig (Elt F)) : (Proc.devRef .tc main_v0 : DevRef τ sig).ty.Contents (Elt F) :=
  transpose S8x32x32x256 [0, 2, 3, 1] (V0 (Proc.devRef .tc main_arg0)) transposes_S8x256x32x32_S8x32x32x256_0_2_3_1

set_option maxRecDepth 8192 in
/-- `main_v5`'s composed term of the arguments (named: it is used 5 times). -/
def res_main_v5 (V0 : Valuation τ sig (Elt F)) : (Proc.devRef .tc main_v5 : DevRef τ sig).ty.Contents (Elt F) :=
  Host.divf (res_main_v0 V0) (broadcastInDim S8x32x32x256 ![0, 1, 2, 3] bcast_S8x32x32x1_S8x32x32x256_0_1_2_3 (maximumf (Host.sqrt (broadcastInDim S8x32x32x1 ![0, 1, 2] bcast_S8x32x32_S8x32x32x1_0_1_2 (Host.reduceAdd (mulf (res_main_v0 V0) (res_main_v0 V0)) (constant S_ .f32 0x00000000#32) reducesTo_S8x32x32x256_S8x32x32_d3 h_S_))) (broadcastInDim S8x32x32x1 ![] bcast_S_S8x32x32x1 (constant S_ .f32 0x2B8CBCCC#32))))

set_option maxRecDepth 8192 in
/-- `main_v15`'s composed term of the arguments (named: it is used 5 times). -/
def res_main_v15 (V0 : Valuation τ sig (Elt F)) : (Proc.devRef .tc main_v15 : DevRef τ sig).ty.Contents (Elt F) :=
  fun j => (Host.argReduce reducer_argmin_f32_i32 (Host.dotGeneral dot_S8192x256_S256x1024_S8192x1024_1_0_0_1_n_n none (Host.negf (shapeCast _ (res_main_v5 V0) shapeCasts_S8x32x32x256_S8192x256)) (transpose S256x1024 [1, 0] (Host.divf (V0 (Proc.devRef .tc main_arg1)) (broadcastInDim S1024x256 ![0, 1] bcast_S1024x1_S1024x256_0_1 (maximumf (Host.sqrt (broadcastInDim S1024x1 ![0] bcast_S1024_S1024x1_0 (Host.reduceAdd (mulf (V0 (Proc.devRef .tc main_arg1)) (V0 (Proc.devRef .tc main_arg1))) (constant S_ .f32 0x00000000#32) reducesTo_S1024x256_S1024_d1 h_S_))) (broadcastInDim S1024x1 ![] bcast_S_S1024x1 (constant S_ .f32 0x2B8CBCCC#32))))) transposes_S1024x256_S256x1024_1_0)) (iotaInDim S8192x1024 32 1) (constant S_ .f32 0x7F800000#32) (constantI S_ 32 0#32) reducesTo_S8192x1024_S8192_d1 h_S_ j).2

set_option maxRecDepth 8192 in
/-- `main_v17`'s composed term of the arguments (named: it is used 3 times). -/
def res_main_v17 (V0 : Valuation τ sig (Elt F)) : (Proc.devRef .tc main_v17 : DevRef τ sig).ty.Contents (Elt F) :=
  maxsi (broadcastInDim S8192 ![] bcast_S_S8192 (id (constantI S_ 32 0#32))) (res_main_v15 V0)

set_option maxRecDepth 8192 in
/-- `main_v25`'s composed term of the arguments (named: it is used 2 times). -/
def res_main_v25 (V0 : Valuation τ sig (Elt F)) : (Proc.devRef .tc main_v25 : DevRef τ sig).ty.Contents (Elt F) :=
  Host.scatter scatter_S1024_S8192x1_S8192_n_0_0_1 IntOp.addi (broadcastInDim S1024 ![] bcast_S_S1024 (constantI S_ 32 0#32)) (broadcastInDim S8192x1 ![0] bcast_S8192_S8192x1_0 (select (cmpi .slt (res_main_v17 V0) (broadcastInDim S8192 ![] bcast_S_S8192 (constantI S_ 32 0#32))) (addi (res_main_v17 V0) (broadcastInDim S8192 ![] bcast_S_S8192 (constantI S_ 32 1024#32))) (res_main_v17 V0))) (broadcastInDim S8192 ![] bcast_S_S8192 (constantI S_ 32 1#32))

set_option maxRecDepth 8192 in
/-- `main_v36`'s composed term of the arguments (named: it is used 2 times). -/
def res_main_v36 (V0 : Valuation τ sig (Elt F)) : (Proc.devRef .tc main_v36 : DevRef τ sig).ty.Contents (Elt F) :=
  Host.divf (id (addf (sitofp .f32 (res_main_v25 V0)) (broadcastInDim S1024 ![] bcast_S_S1024 (constant S_ .f32 0x38D1B717#32)))) (broadcastInDim S1024 ![] bcast_S_S1024 (Host.reduceAdd (id (addf (sitofp .f32 (res_main_v25 V0)) (broadcastInDim S1024 ![] bcast_S_S1024 (constant S_ .f32 0x38D1B717#32)))) (constant S_ .f32 0x00000000#32) reducesTo_S1024_S_d0 h_S_))

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  broadcastInDim S8192x1 ![0] bcast_S8192_S8192x1_0 (select (cmpi .slt (res_main_v15 V0) (broadcastInDim S8192 ![] bcast_S_S8192 (constantI S_ 32 0#32))) (addi (res_main_v15 V0) (broadcastInDim S8192 ![] bcast_S_S8192 (constantI S_ 32 1024#32))) (res_main_v15 V0))

set_option maxRecDepth 8192 in
/-- `main_v42`'s composed term of the arguments (named: it is used 3 times). -/
def res_main_v42 (V0 : Valuation τ sig (Elt F)) : (Proc.devRef .tc main_v42 : DevRef τ sig).ty.Contents (Elt F) :=
  shapeCast _ (select (broadcastInDim S8192x256 ![0] bcast_S8192_S8192x256_0 (Host.reduce IntOp.andi (andi (cmpi .sge (res_main_call4_v5 V0) (broadcastInDim S8192x1 ![] bcast_S_S8192x1 (constantI S_ 32 0#32))) (cmpi .sle (res_main_call4_v5 V0) (broadcastInDim S8192x1 ![0, 1] bcast_S1x1_S8192x1_0_1 (broadcastInDim S1x1 ![1] bcast_S1_S1x1_1 (constantI S1 32 1023#32))))) (constantI S_ 1 1#1) reducesTo_S8192x1_S8192_d1 h_S_)) (Host.gather gather_S1024x256_S8192x1_S8192x256_1_0_n_n_0_1_1256 (V0 (Proc.devRef .tc main_arg1)) (res_main_call4_v5 V0)) (broadcastInDim S8192x256 ![] bcast_S_S8192x256 (constant S_ .f32 0x7FC00000#32))) shapeCasts_S8192x256_S8x32x32x256

set_option maxRecDepth 8192 in
/-- `main_v47`'s composed term of the arguments (named: it is used 3 times). -/
def res_main_v47 (V0 : Valuation τ sig (Elt F)) : (Proc.devRef .tc main_v47 : DevRef τ sig).ty.Contents (Elt F) :=
  Host.divf (res_main_v42 V0) (broadcastInDim S8x32x32x256 ![0, 1, 2, 3] bcast_S8x32x32x1_S8x32x32x256_0_1_2_3 (maximumf (Host.sqrt (broadcastInDim S8x32x32x1 ![0, 1, 2] bcast_S8x32x32_S8x32x32x1_0_1_2 (Host.reduceAdd (mulf (res_main_v42 V0) (res_main_v42 V0)) (constant S_ .f32 0x00000000#32) reducesTo_S8x32x32x256_S8x32x32_d3 h_S_))) (broadcastInDim S8x32x32x1 ![] bcast_S_S8x32x32x1 (constant S_ .f32 0x2B8CBCCC#32))))

set_option maxRecDepth 8192 in
/-- `main_v48`'s composed term of the arguments (named: it is used 2 times). -/
def res_main_v48 (V0 : Valuation τ sig (Elt F)) : (Proc.devRef .tc main_v48 : DevRef τ sig).ty.Contents (Elt F) :=
  subf (res_main_v47 V0) (res_main_v5 V0)

set_option maxRecDepth 8192 in
/-- `main_v54`'s composed term of the arguments (named: it is used 2 times). -/
def res_main_v54 (V0 : Valuation τ sig (Elt F)) : (Proc.devRef .tc main_v54 : DevRef τ sig).ty.Contents (Elt F) :=
  subf (res_main_v47 V0) (res_main_v5 V0)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 32 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_call0_v0, main_call0_cst, main_call0_v1, main_call0_v2, main_v1, main_cst, main_v2, main_v3, main_v4, main_v5, main_v6, main_call1_v0, main_call1_cst, main_call1_v1, main_call1_v2, main_v7, main_cst_0, main_v8, main_v9, main_v10, main_v11, main_v12, main_v13, main_v14, main_call2_v0, main_call2_cst, main_call2_c, main_call2_v1_0, main_v15, main_c, main_v16]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0, TRef.binary, TRef.nullary, TRef.unary, TRef.quaternary, TRef.toBuf, TRef.ofBuf, cast_eq]
  after_results_simp
  simp only [val0_main_arg0] <;> rfl
set_option maxRecDepth 8192 in
set_option maxHeartbeats 2000000 in
theorem val0_1_main_v15 (V0 : Valuation τ sig (Elt F)) : val0_1 V0 (no_index (Proc.devRef .tc main_v15)) = res_main_v15 V0 := by
  unfold val0_1
  simp only [ops_part0_0, TRef.binary, TRef.nullary, TRef.unary, TRef.quaternary, TRef.toBuf, TRef.ofBuf, cast_eq]
  after_results_simp
  simp only [val0_main_arg1, val0_main_arg0] <;> rfl
set_option maxRecDepth 8192 in
set_option maxHeartbeats 2000000 in
theorem val0_1_main_v16 (V0 : Valuation τ sig (Elt F)) : val0_1 V0 (no_index (Proc.devRef .tc main_v16)) = broadcastInDim S1024 ![] bcast_S_S1024 (constantI S_ 32 0#32) := by
  unfold val0_1
  simp only [ops_part0_0, TRef.binary, TRef.nullary, TRef.unary, TRef.quaternary, TRef.toBuf, TRef.ofBuf, cast_eq]
  after_results_simp
  all_goals rfl

/-- The device's buffer contents after @main's first 62 operations. -/
def val0_2 (V0 : Valuation τ sig (Elt F)) : Valuation τ sig (Elt F) := after ops_part0_1 (val0_1 V0)
/-- The buffers that window `ops_part0_1`'s operations write. -/
abbrev ops_part0_1_W : List (Ref sig .tc) := [main_c_1, main_call3_v0, main_call3_v1, main_v17, main_c_2, main_v18, main_v19, main_c_3, main_v20, main_v21, main_v22, main_v23, main_c_4, main_v24, main_v25, main_v26, main_cst_5, main_v27, main_v28, main_v29, main_cst_6, main_v30, main_v31, main_v32, main_cst_7, main_v33, main_v34, main_v35, main_v36, main_v37]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v15 (V0 : Valuation τ sig (Elt F)) : val0_2 V0 (no_index (Proc.devRef .tc main_v15)) = res_main_v15 V0 :=
  (val0_2_keep V0 main_v15 (by decide)).trans (val0_1_main_v15 V0)
set_option maxRecDepth 8192 in
set_option maxHeartbeats 2000000 in
theorem val0_2_main_v36 (V0 : Valuation τ sig (Elt F)) : val0_2 V0 (no_index (Proc.devRef .tc main_v36)) = res_main_v36 V0 := by
  unfold val0_2
  simp only [ops_part0_1, TRef.binary, TRef.unary, TRef.toBuf, TRef.ofBuf, cast_eq]
  after_results_simp
  simp only [val0_1_main_v15, val0_1_main_v16] <;> rfl
set_option maxRecDepth 8192 in
set_option maxHeartbeats 2000000 in
theorem val0_2_main_v37 (V0 : Valuation τ sig (Elt F)) : val0_2 V0 (no_index (Proc.devRef .tc main_v37)) = Host.log (res_main_v36 V0) := by
  unfold val0_2
  simp only [ops_part0_1, TRef.binary, TRef.unary, TRef.toBuf, TRef.ofBuf, cast_eq]
  after_results_simp
  simp only [val0_1_main_v15, val0_1_main_v16] <;> rfl

/-- The device's buffer contents after @main's first 92 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v38, main_cst_8, main_v39, main_v40, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v41, main_v42, main_call5_v0, main_call5_cst]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_v5 (V0 : Valuation τ sig (Elt F)) : val0_3 V0 (no_index (Proc.devRef .tc main_v5)) = res_main_v5 V0 :=
  (val0_3_keep V0 main_v5 (by decide)).trans (val0_2_main_v5 V0)
theorem val0_3_main_v15 (V0 : Valuation τ sig (Elt F)) : val0_3 V0 (no_index (Proc.devRef .tc main_v15)) = res_main_v15 V0 :=
  (val0_3_keep V0 main_v15 (by decide)).trans (val0_2_main_v15 V0)
set_option maxRecDepth 8192 in
set_option maxHeartbeats 2000000 in
theorem val0_3_main_v40 (V0 : Valuation τ sig (Elt F)) : val0_3 V0 (no_index (Proc.devRef .tc main_v40)) = Host.negf (Host.reduceAdd (mulf (res_main_v36 V0) (Host.log (res_main_v36 V0))) (constant S_ .f32 0x00000000#32) reducesTo_S1024_S_d0 h_S_) := by
  unfold val0_3
  simp only [ops_part0_2, TRef.binary, TRef.nullary, TRef.ternary, TRef.unary, TRef.toBuf, TRef.ofBuf, cast_eq]
  after_results_simp
  simp only [val0_2_main_v37, val0_2_main_v36] <;> rfl
set_option maxRecDepth 8192 in
set_option maxHeartbeats 2000000 in
theorem val0_3_main_v42 (V0 : Valuation τ sig (Elt F)) : val0_3 V0 (no_index (Proc.devRef .tc main_v42)) = res_main_v42 V0 := by
  unfold val0_3
  simp only [ops_part0_2, TRef.binary, TRef.nullary, TRef.ternary, TRef.unary, TRef.toBuf, TRef.ofBuf, cast_eq]
  after_results_simp
  simp only [val0_2_main_v15, val0_2_main_arg1] <;> rfl
set_option maxRecDepth 8192 in
set_option maxHeartbeats 2000000 in
theorem val0_3_main_call5_v0 (V0 : Valuation τ sig (Elt F)) : val0_3 V0 (no_index (Proc.devRef .tc main_call5_v0)) = mulf (res_main_v42 V0) (res_main_v42 V0) := by
  unfold val0_3
  simp only [ops_part0_2, TRef.binary, TRef.nullary, TRef.ternary, TRef.unary, TRef.toBuf, TRef.ofBuf, cast_eq]
  after_results_simp
  simp only [val0_2_main_v15, val0_2_main_arg1] <;> rfl
set_option maxRecDepth 8192 in
set_option maxHeartbeats 2000000 in
theorem val0_3_main_call5_cst (V0 : Valuation τ sig (Elt F)) : val0_3 V0 (no_index (Proc.devRef .tc main_call5_cst)) = constant S_ .f32 0x00000000#32 := by
  unfold val0_3
  simp only [ops_part0_2, TRef.binary, TRef.nullary, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_call5_v1, main_call5_v2, main_v43, main_cst_9, main_v44, main_v45, main_v46, main_v47]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_v5 (V0 : Valuation τ sig (Elt F)) : val1 V0 (no_index (Proc.devRef .tc main_v5)) = res_main_v5 V0 :=
  (val1_keep V0 main_v5 (by decide)).trans (val0_3_main_v5 V0)
theorem val1_main_v15 (V0 : Valuation τ sig (Elt F)) : val1 V0 (no_index (Proc.devRef .tc main_v15)) = res_main_v15 V0 :=
  (val1_keep V0 main_v15 (by decide)).trans (val0_3_main_v15 V0)
theorem val1_main_v40 (V0 : Valuation τ sig (Elt F)) : val1 V0 (no_index (Proc.devRef .tc main_v40)) = Host.negf (Host.reduceAdd (mulf (res_main_v36 V0) (Host.log (res_main_v36 V0))) (constant S_ .f32 0x00000000#32) reducesTo_S1024_S_d0 h_S_) :=
  (val1_keep V0 main_v40 (by decide)).trans (val0_3_main_v40 V0)
theorem val1_main_v42 (V0 : Valuation τ sig (Elt F)) : val1 V0 (no_index (Proc.devRef .tc main_v42)) = res_main_v42 V0 :=
  (val1_keep V0 main_v42 (by decide)).trans (val0_3_main_v42 V0)
set_option maxRecDepth 8192 in
theorem val1_main_v47 (V0 : Valuation τ sig (Elt F)) : val1 V0 (no_index (Proc.devRef .tc main_v47)) = res_main_v47 V0 := by
  unfold val1
  simp only [ops_part0_3, TRef.binary, TRef.unary, TRef.toBuf, TRef.ofBuf, cast_eq]
  after_results_simp
  simp only [val0_3_main_call5_cst, val0_3_main_call5_v0, val0_3_main_v42] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v48, main_v49, main_cst_10, main_v50, main_cst_11, main_v51, main_cst_12, main_v52, main_cst_13, main_v53, main_v54, main_v55, main_cst_14, main_v56, main_cst_15, main_v57, main_cst_16, main_v58, main_v59, main_v60, main_v61, main_v62, main_v63]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v40 (V0 : Valuation τ sig (Elt F)) : val2 V0 (no_index (Proc.devRef .tc main_v40)) = Host.negf (Host.reduceAdd (mulf (res_main_v36 V0) (Host.log (res_main_v36 V0))) (constant S_ .f32 0x00000000#32) reducesTo_S1024_S_d0 h_S_) :=
  (val2_keep V0 main_v40 (by decide)).trans (val1_main_v40 V0)
set_option maxRecDepth 8192 in
set_option maxHeartbeats 2000000 in
theorem val2_main_v59 (V0 : Valuation τ sig (Elt F)) : val2 V0 (no_index (Proc.devRef .tc main_v59)) = addf (mulf (constant S_ .f32 0x3E800000#32) (Host.divf (Host.reduceAdd (Host.reduceAdd (mulf (res_main_v48 V0) (res_main_v48 V0)) (constant S_ .f32 0x00000000#32) reducesTo_S8x32x32x256_S8x32x32_d3 h_S_) (constant S_ .f32 0x00000000#32) reducesTo_S8x32x32_S_d0_1_2 h_S_) (constant S_ .f32 0x46000000#32))) (Host.divf (Host.reduceAdd (Host.reduceAdd (mulf (res_main_v54 V0) (res_main_v54 V0)) (constant S_ .f32 0x00000000#32) reducesTo_S8x32x32x256_S8x32x32_d3 h_S_) (constant S_ .f32 0x00000000#32) reducesTo_S8x32x32_S_d0_1_2 h_S_) (constant S_ .f32 0x46000000#32)) := by
  unfold val2
  simp only [ops_part1]
  after_results_simp
  simp only [val1_main_v5, val1_main_v47] <;> rfl
set_option maxRecDepth 8192 in
set_option maxHeartbeats 2000000 in
theorem val2_main_v62 (V0 : Valuation τ sig (Elt F)) : val2 V0 (no_index (Proc.devRef .tc main_v62)) = transpose S8x256x32x32 [0, 3, 1, 2] (addf (res_main_v5 V0) (subf (res_main_v47 V0) (res_main_v5 V0))) transposes_S8x32x32x256_S8x256x32x32_0_3_1_2 := by
  unfold val2
  simp only [ops_part1]
  after_results_simp
  simp only [val1_main_v47, val1_main_v5] <;> rfl

end Cert.ReferenceIdeal.Value

end
-- ==== Proof.RefRun.lean ====
/- The run of the reference program: each result buffer is the operations' composed term of the arguments, the arguments
   unchanged. -/
module

public import proofs.«01_k».proof.Proof.RefVals

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- What the last window leaves in `main_v63`, from any contents: the reshaped positions. -/
theorem part1_main_v63 (V : Valuation τ sig (Elt F)) :
    after ops_part1 V (no_index (Proc.devRef .tc main_v63)) = shapeCast _ (V (Proc.devRef .tc main_v15)) shapeCasts_S8192_S8x1024 := by
  simp only [ops_part1]
  after_results_simp
  rfl
theorem val2_main_v63 (V0 : Valuation τ sig (Elt F)) :
    val2 V0 (no_index (Proc.devRef .tc main_v63)) = shapeCast _ (res_main_v15 V0) shapeCasts_S8192_S8x1024 :=
  (part1_main_v63 (val1 V0)).trans (congrArg (fun y => shapeCast S8x1024 y shapeCasts_S8192_S8x1024) (val1_main_v15 V0))

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = transpose S8x256x32x32 [0, 3, 1, 2] (addf (res_main_v5 (launchContents m c)) (subf (res_main_v47 (launchContents m c)) (res_main_v5 (launchContents m c)))) transposes_S8x32x32x256_S8x256x32x32_0_3_1_2
      ∧ r.2.mem ((c.tc : Thread nD τ).loc main_v59) = addf (mulf (constant S_ .f32 0x3E800000#32) (Host.divf (Host.reduceAdd (Host.reduceAdd (mulf (res_main_v48 (launchContents m c)) (res_main_v48 (launchContents m c))) (constant S_ .f32 0x00000000#32) reducesTo_S8x32x32x256_S8x32x32_d3 h_S_) (constant S_ .f32 0x00000000#32) reducesTo_S8x32x32_S_d0_1_2 h_S_) (constant S_ .f32 0x46000000#32))) (Host.divf (Host.reduceAdd (Host.reduceAdd (mulf (res_main_v54 (launchContents m c)) (res_main_v54 (launchContents m c))) (constant S_ .f32 0x00000000#32) reducesTo_S8x32x32x256_S8x32x32_d3 h_S_) (constant S_ .f32 0x00000000#32) reducesTo_S8x32x32_S_d0_1_2 h_S_) (constant S_ .f32 0x46000000#32))
      ∧ r.2.mem ((c.tc : Thread nD τ).loc main_v40) = Host.negf (Host.reduceAdd (mulf (res_main_v36 (launchContents m c)) (Host.log (res_main_v36 (launchContents m c)))) (constant S_ .f32 0x00000000#32) reducesTo_S1024_S_d0 h_S_)
      ∧ r.2.mem ((c.tc : Thread nD τ).loc main_v63) = shapeCast _ (res_main_v15 (launchContents m c)) shapeCasts_S8192_S8x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v62).trans ((congrFun (after_ops (launchContents m c)) (Proc.devRef .tc main_v62)).trans (val2_main_v62 (launchContents m c))),
      (h c main_v59).trans ((congrFun (after_ops (launchContents m c)) (Proc.devRef .tc main_v59)).trans (val2_main_v59 (launchContents m c))),
      (h c main_v40).trans ((congrFun (after_ops (launchContents m c)) (Proc.devRef .tc main_v40)).trans (val2_main_v40 (launchContents m c))),
      (h c main_v63).trans ((congrFun (after_ops (launchContents m c)) (Proc.devRef .tc main_v63)).trans (val2_main_v63 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c)))⟩)
    (run_seq scopedRefs_eq scopedSems_eq defs main (fun _ => ops) main_eq (fun _ => ops_sub) m ρ fun _ => ops_fresh)

end Cert.ReferenceIdeal.Value

end
-- ==== Proof.RefOut.lean ====
/- The run of the reference, its results stated by the terms `out0`, …, `out3` of its two arguments. -/
module

public import proofs.«01_k».proof.Proof.RefRun
public import proofs.«01_k».proof.Proof.RefTerms
public import Idealize.ShloMosaic.Lib.Claim

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F)) (z : Vec F S8x256x32x32 .f32) (e : Vec F S1024x256 .f32)
  (hz : V (Proc.devRef .tc main_arg0) = z) (he : V (Proc.devRef .tc main_arg1) = e)

include hz

theorem v0_eq : res_main_v0 V = zt z := by subst hz; rfl
theorem v5_eq : res_main_v5 V = unitZ (zt z) := by unfold res_main_v5; rw [v0_eq V z hz]; rfl

include he

/-- The positions. -/
theorem v15_eq : res_main_v15 V = pos z e := by
  unfold res_main_v15
  rw [v5_eq V z hz, he]
  rfl
theorem v25_eq : res_main_v25 V = count (F := F) (pos z e) := by
  unfold res_main_v25 res_main_v17
  rw [v15_eq V z e hz he]
  generalize pos z e = y
  rfl
theorem v36_eq : res_main_v36 V = prob (F := F) (count (F := F) (pos z e)) := by
  unfold res_main_v36
  rw [v25_eq V z e hz he]
  generalize count (F := F) (pos z e) = n
  rfl
theorem v42_eq : res_main_v42 V = shapeCast S8x32x32x256 (rows e (pos z e)) shapeCasts_S8192x256_S8x32x32x256 := by
  unfold res_main_v42 res_main_call4_v5
  rw [v15_eq V z e hz he, he]
  generalize pos z e = y
  rfl
theorem v47_eq : res_main_v47 V = sel z e := by
  unfold res_main_v47 sel
  rw [v42_eq V z e hz he]
  generalize shapeCast S8x32x32x256 (rows e (pos z e)) shapeCasts_S8192x256_S8x32x32x256 = y
  rfl
theorem v48_eq : res_main_v48 V = subf (sel z e) (unitZ (zt z)) := by
  unfold res_main_v48
  rw [v47_eq V z e hz he, v5_eq V z hz]
theorem v54_eq : res_main_v54 V = subf (sel z e) (unitZ (zt z)) := by
  unfold res_main_v54
  rw [v47_eq V z e hz he, v5_eq V z hz]

omit hz he

/-- On every device, for any float values, from any memory with zero counters: every weakly fair execution of
    @main terminates with the four results at their terms of the two arguments and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = out0 (m ((c.tc : Thread nD τ).loc main_arg0)) (m ((c.tc : Thread nD τ).loc main_arg1))
      ∧ r.2.mem ((c.tc : Thread nD τ).loc main_v59) = out1 (m ((c.tc : Thread nD τ).loc main_arg0)) (m ((c.tc : Thread nD τ).loc main_arg1))
      ∧ r.2.mem ((c.tc : Thread nD τ).loc main_v40) = out2 (m ((c.tc : Thread nD τ).loc main_arg0)) (m ((c.tc : Thread nD τ).loc main_arg1))
      ∧ r.2.mem ((c.tc : Thread nD τ).loc main_v63) = out3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h1, h2, h3, a0, a1⟩ := h c
    have hz : launchContents m c (Proc.devRef .tc main_arg0) = m ((c.tc : Thread nD τ).loc main_arg0) := launchContents_devRef m c main_arg0
    have he : launchContents m c (Proc.devRef .tc main_arg1) = m ((c.tc : Thread nD τ).loc main_arg1) := launchContents_devRef m c main_arg1
    generalize launchContents m c = V at h0 h1 h2 h3 hz he
    rw [v5_eq V _ hz, v47_eq V _ _ hz he] at h0
    rw [v48_eq V _ _ hz he, v54_eq V _ _ hz he] at h1
    rw [v36_eq V _ _ hz he] at h2
    rw [v15_eq V _ _ hz he] at h3
    refine ⟨h0, h1, h2, h3, a0, a1⟩) (run m ρ)

end Cert.ReferenceIdeal.Value

end
-- ==== Proof.Claims.lean ====
/- The claims about the programs: the reference's frame, and that kernel and reference end with equal results. -/
module

public import proofs.«01_k».proof.Defs
public import proofs.«01_k».proof.Proof.Equal
public import proofs.«01_k».proof.Proof.RefOut

@[expose] public section

set_option maxRecDepth 16384

noncomputable section

namespace Cert.Claims

open Idealize.ShloMosaic Idealize.ShloMosaic.TcCoe Idealize.SL.Sem

/-- The reference runs, its arguments end unchanged, and every counter reads zero: it declares no semaphore. -/
theorem reference_frame : Cert.quiescent_ReferenceIdeal (hReferenceIdeal := Cert.ReferenceIdeal.Gen.facts) := fun m ρ _ =>
  (θ_run Cert.ReferenceIdeal.defs _ _).mono (fun r h => ⟨fun c => ⟨(h c).2.2.2.2.1, (h c).2.2.2.2.2⟩, sem_eq_zero_of_no_sems (by decide) r.2⟩)
    (Cert.ReferenceIdeal.Value.run_out (F := Ideal) m ρ)

/-- The kernel's run, its results stated by the reference's terms of the two arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
      r.2.mem ((c.tc : Thread Cert.KernelIdeal.nD Cert.KernelIdeal.τ).loc Cert.KernelIdeal.main_v2)
        = Cert.ReferenceIdeal.Value.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v3)
        = Cert.ReferenceIdeal.Value.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v4)
        = Cert.ReferenceIdeal.Value.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5)
        = Cert.ReferenceIdeal.Value.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  (θ_run Cert.KernelIdeal.defs _ _).mono (fun r h c => by
    obtain ⟨h0, h1, h2, h3, a0, a1⟩ := h c
    have hz : Cert.KernelIdeal.Value.zin m c = Cert.Equal.flat (m ((c.tc : Thread Cert.KernelIdeal.nD Cert.KernelIdeal.τ).loc Cert.KernelIdeal.main_arg0)) :=
      Cert.KernelIdeal.Value.zin_eq m c
    have he : Cert.KernelIdeal.Value.ein m c = m ((c.tc : Thread Cert.KernelIdeal.nD Cert.KernelIdeal.τ).loc Cert.KernelIdeal.main_arg1) :=
      Cert.KernelIdeal.Value.ein_eq m c
    generalize Cert.KernelIdeal.Value.zin m c = zi at h0 h1 h2 h3 hz
    generalize Cert.KernelIdeal.Value.ein m c = ei at h0 h1 h2 h3 he
    subst hz he
    exact ⟨h0.trans (Cert.Equal.result0 _ _), h1.trans (Cert.Equal.result1 _ _), h2.trans (Cert.Equal.result2 _ _),
      h3.trans (Cert.Equal.result3 _ _), a0, a1⟩)
    (Cert.KernelIdeal.Value.run (F := Ideal) m ρ)

/-- From memories that agree on the arguments, kernel and reference end with equal results. -/
theorem algebraic : Cert.algebraic_KernelIdeal_ReferenceIdeal (hKernelIdeal := Cert.KernelIdeal.Gen.facts) (hReferenceIdeal := Cert.ReferenceIdeal.Gen.facts) :=
  fun m g m' g' _ hagree =>
    ⟨_, _, _, _, kernel_run m g, (θ_run Cert.ReferenceIdeal.defs _ _).mono (fun r h c => by
      obtain ⟨h0, h1, h2, h3, a0, a1⟩ := h c
      obtain ⟨e0, e1⟩ := hagree c
      exact ⟨h0.trans (congrArg₂ Cert.ReferenceIdeal.Value.out0 e0 e1), h1.trans (congrArg₂ Cert.ReferenceIdeal.Value.out1 e0 e1),
        h2.trans (congrArg₂ Cert.ReferenceIdeal.Value.out2 e0 e1), h3.trans (congrArg₂ Cert.ReferenceIdeal.Value.out3 e0 e1), a0, a1⟩)
      (Cert.ReferenceIdeal.Value.run_out (F := Ideal) m' g')⟩

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The kernel's two frames are the generated ones; the idealization rewrote no operation; the reference's frame and the
    equality of the results are `Proof/Claims.lean`'s. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Claims.reference_frame, trivial,
  Cert.Claims.algebraic⟩

end Cert.Proof

end
